-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1x20000 : Shape := ⟨2, ![1, 20000]⟩
abbrev S20000x20000 : Shape := ⟨2, ![20000, 20000]⟩

class Facts : Prop where
  bcast_S_S20000 : S_.BroadcastsInDim S20000 (![] : Fin 0 → Fin S20000.rank)
  bcast_S20000_S20000x1_0 : S20000.BroadcastsInDim S20000x1 (![0] : Fin 1 → Fin S20000x1.rank)
  bcast_S20000_S1x20000_1 : S20000.BroadcastsInDim S1x20000 (![1] : Fin 1 → Fin S1x20000.rank)
  bcast_S20000x1_S20000x20000_0_1 : S20000x1.BroadcastsInDim S20000x20000 (![0, 1] : Fin 2 → Fin S20000x20000.rank)
  bcast_S1x20000_S20000x20000_0_1 : S1x20000.BroadcastsInDim S20000x20000 (![0, 1] : Fin 2 → Fin S20000x20000.rank)
  reducesTo_S20000x20000_S_d0_1 : S20000x20000.ReducesTo [0, 1] S_
  h_S_ : 0 < S_.numel
  slices_S20000x4_S20000x1_0_2 : S20000x4.Slices ![0, 2] S20000x1
  shapeCasts_S20000x1_S20000 : S20000x1.ShapeCasts S20000
  slices_S20000x4_S20000x1_0_0 : S20000x4.Slices ![0, 0] S20000x1
  slices_S20000x4_S20000x1_0_3 : S20000x4.Slices ![0, 3] S20000x1
  slices_S20000x4_S20000x1_0_1 : S20000x4.Slices ![0, 1] S20000x1
  bcast_S_S20000x4 : S_.BroadcastsInDim S20000x4 (![] : Fin 0 → Fin S20000x4.rank)
  reducesTo_S20000x4_S20000_d1 : S20000x4.ReducesTo [1] S20000
  reducesTo_S20000_S_d0 : S20000.ReducesTo [0] S_

variable [Facts]

def fn_part2 {F : FTy → Type} [FloatOps F] (main_v15 : IVec S_ 1) (main_v39 : IVec S20000 1) (main_v40 : IVec S20000 1) : IVec S_ 1 :=
  let main_v41 : IVec S20000 1 := ori main_v40 main_v39
  let main_c_5 : IVec S_ 1 := constantI S_ 1 1#1
  let main_v42 : IVec S_ 1 := (fun x v => Host.reduce IntOp.andi x v reducesTo_S20000_S_d0 h_S_) main_v41 main_c_5
  let main_v43 : IVec S_ 1 := andi main_v15 main_v42
  main_v43

def fn_part1 {F : FTy → Type} [FloatOps F] (main_arg0 : FVec F S20000x4 .f32) (main_v1 : IVec S20000 1) (main_v15 : IVec S_ 1) (main_v20 : FVec F S20000 .f32) (main_v21 : FVec F S20000x1 .f32) : IVec S_ 1 :=
  let main_v22 : FVec F S20000 .f32 := shapeCast S20000 main_v21 shapeCasts_S20000x1_S20000
  let main_v23 : FVec F S20000x1 .f32 := (extractStridedSlice S20000x1 ![0, 1] · slices_S20000x4_S20000x1_0_1) main_arg0
  let main_v24 : FVec F S20000 .f32 := shapeCast S20000 main_v23 shapeCasts_S20000x1_S20000
  let main_v25 : FVec F S20000 .f32 := subf main_v22 main_v24
  let main_v26 : FVec F S20000x4 .f32 := Host.absf main_arg0
  let main_cst_0 : FVec F S_ .f32 := constant S_ .f32 0x7F800000#32
  let main_v27 : FVec F S20000x4 .f32 := broadcastInDim S20000x4 ![] bcast_S_S20000x4 main_cst_0
  let main_v28 : IVec S20000x4 1 := cmpf .olt main_v26 main_v27
  let main_c_1 : IVec S_ 1 := constantI S_ 1 1#1
  let main_v29 : IVec S20000 1 := (fun x v => Host.reduce IntOp.andi x v reducesTo_S20000x4_S20000_d1 h_S_) main_v28 main_c_1
  let main_cst_2 : FVec F S_ .f32 := constant S_ .f32 0x00000000#32
  let main_v30 : FVec F S20000 .f32 := broadcastInDim S20000 ![] bcast_S_S20000 main_cst_2
  let main_v31 : IVec S20000 1 := cmpf .ogt main_v20 main_v30
  let main_v32 : IVec S20000 1 := andi main_v29 main_v31
  let main_cst_3 : FVec F S_ .f32 := constant S_ .f32 0x00000000#32
  let main_v33 : FVec F S20000 .f32 := broadcastInDim S20000 ![] bcast_S_S20000 main_cst_3
  let main_v34 : IVec S20000 1 := cmpf .ogt main_v25 main_v33
  let main_v35 : IVec S20000 1 := andi main_v32 main_v34
  let main_v36 : FVec F S20000 .f32 := mulf main_v20 main_v25
  let main_cst_4 : FVec F S_ .f32 := constant S_ .f32 0x3089705F#32
  let main_v37 : FVec F S20000 .f32 := broadcastInDim S20000 ![] bcast_S_S20000 main_cst_4
  let main_v38 : IVec S20000 1 := cmpf .oge main_v36 main_v37
  let main_v39 : IVec S20000 1 := andi main_v35 main_v38
  let main_v40 : IVec S20000 1 := noti main_v1
  fn_part2 (F := F) main_v15 main_v39 main_v40

def fn {F : FTy → Type} [FloatOps F] (main_arg0 : FVec F S20000x4 .f32) (main_arg1 : FVec F S20000 .f32) : IVec S_ 1 :=
  let main_cst : FVec F S_ .f32 := constant S_ .f32 0x3E800000#32
  let main_v0 : FVec F S20000 .f32 := broadcastInDim S20000 ![] bcast_S_S20000 main_cst
  let main_v1 : IVec S20000 1 := cmpf .oge main_arg1 main_v0
  let main_v2 : FVec F S20000x1 .f32 := broadcastInDim S20000x1 ![0] bcast_S20000_S20000x1_0 main_arg1
  let main_v3 : FVec F S1x20000 .f32 := broadcastInDim S1x20000 ![1] bcast_S20000_S1x20000_1 main_arg1
  let main_v4 : FVec F S20000x20000 .f32 := broadcastInDim S20000x20000 ![0, 1] bcast_S20000x1_S20000x20000_0_1 main_v2
  let main_v5 : FVec F S20000x20000 .f32 := broadcastInDim S20000x20000 ![0, 1] bcast_S1x20000_S20000x20000_0_1 main_v3
  let main_v6 : IVec S20000x20000 1 := cmpf .oeq main_v4 main_v5
  let main_v7 : IVec S20000x20000 32 := iotaInDim S20000x20000 32 0
  let main_v8 : IVec S20000x20000 32 := iotaInDim S20000x20000 32 1
  let main_v9 : IVec S20000x1 1 := broadcastInDim S20000x1 ![0] bcast_S20000_S20000x1_0 main_v1
  let main_v10 : IVec S20000x20000 1 := broadcastInDim S20000x20000 ![0, 1] bcast_S20000x1_S20000x20000_0_1 main_v9
  let main_v11 : IVec S20000x20000 1 := andi main_v10 main_v6
  let main_v12 : IVec S20000x20000 1 := noti main_v11
  let main_v13 : IVec S20000x20000 1 := cmpi .eq main_v7 main_v8
  let main_v14 : IVec S20000x20000 1 := ori main_v12 main_v13
  let main_c : IVec S_ 1 := constantI S_ 1 1#1
  let main_v15 : IVec S_ 1 := (fun x v => Host.reduce IntOp.andi x v reducesTo_S20000x20000_S_d0_1 h_S_) main_v14 main_c
  let main_v16 : FVec F S20000x1 .f32 := (extractStridedSlice S20000x1 ![0, 2] · slices_S20000x4_S20000x1_0_2) main_arg0
  let main_v17 : FVec F S20000 .f32 := shapeCast S20000 main_v16 shapeCasts_S20000x1_S20000
  let main_v18 : FVec F S20000x1 .f32 := (extractStridedSlice S20000x1 ![0, 0] · slices_S20000x4_S20000x1_0_0) main_arg0
  let main_v19 : FVec F S20000 .f32 := shapeCast S20000 main_v18 shapeCasts_S20000x1_S20000
  let main_v20 : FVec F S20000 .f32 := subf main_v17 main_v19
  let main_v21 : FVec F S20000x1 .f32 := (extractStridedSlice S20000x1 ![0, 3] · slices_S20000x4_S20000x1_0_3) main_arg0
  fn_part1 (F := F) main_arg0 main_v1 main_v15 main_v20 main_v21
-- ==== Kernel.lean ====
abbrev S20000x4 : Shape := ⟨2, ![20000, 4]⟩
abbrev S20000 : Shape := ⟨1, ![20000]⟩
abbrev S_ : Shape := ⟨0, ![]⟩
abbrev S20480x4 : Shape := ⟨2, ![20480, 4]⟩
abbrev S20480x1 : Shape := ⟨2, ![20480, 1]⟩
abbrev S20480 : Shape := ⟨1, ![20480]⟩
abbrev S128x160 : Shape := ⟨2, ![128, 160]⟩
abbrev S160x128 : Shape := ⟨2, ![160, 128]⟩
abbrev S300x128 : Shape := ⟨2, ![300, 128]⟩
abbrev S1x128 : Shape := ⟨2, ![1, 128]⟩
abbrev S8x128 : Shape := ⟨2, ![8, 128]⟩
abbrev S1 : Shape := ⟨1, ![1]⟩
abbrev S1x1 : Shape := ⟨2, ![1, 1]⟩
abbrev S300x5 : Shape := ⟨2, ![300, 5]⟩

abbrev nBuf : Space → Nat
  | .hbm => 33
  | .vmem => 9
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S_, .i32⟩
  | .hbm, ⟨3, _⟩ => ⟨S_, .f32⟩
  | .hbm, ⟨4, _⟩ => ⟨S20480x4, .f32⟩
  | .hbm, ⟨5, _⟩ => ⟨S20480x1, .f32⟩
  | .hbm, ⟨6, _⟩ => ⟨S20480, .f32⟩
  | .hbm, ⟨7, _⟩ => ⟨S128x160, .f32⟩
  | .hbm, ⟨8, _⟩ => ⟨S128x160, .f32⟩
  | .hbm, ⟨9, _⟩ => ⟨S160x128, .f32⟩
  | .hbm, ⟨10, _⟩ => ⟨S20480x1, .f32⟩
  | .hbm, ⟨11, _⟩ => ⟨S20480, .f32⟩
  | .hbm, ⟨12, _⟩ => ⟨S128x160, .f32⟩
  | .hbm, ⟨13, _⟩ => ⟨S128x160, .f32⟩
  | .hbm, ⟨14, _⟩ => ⟨S160x128, .f32⟩
  | .hbm, ⟨15, _⟩ => ⟨S20480x1, .f32⟩
  | .hbm, ⟨16, _⟩ => ⟨S20480, .f32⟩
  | .hbm, ⟨17, _⟩ => ⟨S128x160, .f32⟩
  | .hbm, ⟨18, _⟩ => ⟨S128x160, .f32⟩
  | .hbm, ⟨19, _⟩ => ⟨S160x128, .f32⟩
  | .hbm, ⟨20, _⟩ => ⟨S20480x1, .f32⟩
  | .hbm, ⟨21, _⟩ => ⟨S20480, .f32⟩
  | .hbm, ⟨22, _⟩ => ⟨S128x160, .f32⟩
  | .hbm, ⟨23, _⟩ => ⟨S128x160, .f32⟩
  | .hbm, ⟨24, _⟩ => ⟨S160x128, .f32⟩
  | .hbm, ⟨25, _⟩ => ⟨S_, .i32⟩
  | .hbm, ⟨26, _⟩ => ⟨S_, .f32⟩
  | .hbm, ⟨27, _⟩ => ⟨S20480, .f32⟩
  | .hbm, ⟨28, _⟩ => ⟨S128x160, .f32⟩
  | .hbm, ⟨29, _⟩ => ⟨S128x160, .f32⟩
  | .hbm, ⟨30, _⟩ => ⟨S160x128, .f32⟩
  | .hbm, ⟨31, _⟩ => ⟨S300x128, .f32⟩
  | .hbm, ⟨32, _⟩ => ⟨S300x5, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S300x128, .f32⟩
  | .local _ .vmem, ⟨6, _⟩ => ⟨S160x128, .f32⟩
  | .local _ .vmem, ⟨7, _⟩ => ⟨S160x128, .f32⟩
  | .local _ .vmem, ⟨8, _⟩ => ⟨S160x128, .i32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (arg9 : BitVec 32) : Fin 2 → Nat :=
  let v2338 : Index := Scalar.indexCast arg9
  let c0_1331 : Index := 0#32
  ![v2338.toNat, 0]

def k0_chk1 (arg9 : BitVec 32) : Prop :=
  (∀ a, (k0_off1 arg9) a + S1x128.size a ≤ S300x128.size a)
theorem k0_off1_inb : ∀ (arg9 : BitVec 32) (k0_hw1 : k0_chk1 arg9), ∀ a, (k0_off1 arg9) a + S1x128.size a ≤ S300x128.size a := fun arg9 k0_hw1 => k0_hw1

def k0_off2 (arg9 : BitVec 32) : Fin 2 → Nat :=
  let c1_i32_3058 : BitVec 32 := 1#32
  let v5422 : BitVec 32 := Scalar.addi arg9 c1_i32_3058
  let v5423 : Index := Scalar.indexCast v5422
  let c0_3059 : Index := 0#32
  ![v5423.toNat, 0]
def k0_cond1 (arg9 : BitVec 32) (v2309 : BitVec 1) : BitVec 1 :=
  let c299_i32 : BitVec 32 := 299#32
  let v2340 : BitVec 1 := Scalar.cmpi .slt arg9 c299_i32
  let v2341 : BitVec 1 := Scalar.andi v2309 v2340
  let v2342 : BitVec 32 := Scalar.extui v2341
  let c0_i32_1332 : BitVec 32 := 0#32
  let v2343 : BitVec 1 := Scalar.cmpi .ne v2342 c0_i32_1332
  v2343

def k0_chk2 (arg9 : BitVec 32) (v2309 : BitVec 1) : Prop :=
  (∀ (k0_h1 : k0_cond1 arg9 v2309 = 1#1), ∀ a, (k0_off2 arg9) a + S1x128.size a ≤ S300x128.size a)
theorem k0_off2_inb : ∀ (arg9 : BitVec 32) (v2309 : BitVec 1) (k0_hw2 : k0_chk2 arg9 v2309), ∀ (k0_h1 : k0_cond1 arg9 v2309 = 1#1), ∀ a, (k0_off2 arg9) a + S1x128.size a ≤ S300x128.size a := fun arg9 v2309 k0_hw2 k0_h1 => k0_hw2 k0_h1

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S300x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S300x5 : Shape := ⟨2, ![300, 5]⟩
abbrev S1x4 : Shape := ⟨2, ![1, 4]⟩
abbrev S4 : Shape := ⟨1, ![4]⟩
abbrev S1 : Shape := ⟨1, ![1]⟩
abbrev S20000x1 : Shape := ⟨2, ![20000, 1]⟩
abbrev S5 : Shape := ⟨1, ![5]⟩
abbrev S300 : Shape := ⟨1, ![300]⟩
abbrev S300x1 : Shape := ⟨2, ![300, 1]⟩
abbrev S1x5 : Shape := ⟨2, ![1, 5]⟩

abbrev nBuf : Space → Nat
  | .hbm => 144
  | .vmem => 0
  | .smem => 0
  | _ => 0

abbrev hbmTy0_0 (i : Nat) : BufTy := match i % 128 with
  | 0 => ⟨S20000x4, .f32⟩
  | 1 => ⟨S20000, .f32⟩
  | 2 => ⟨S_, .f32⟩
  | 3 => ⟨S20000, .f32⟩
  | 4 => ⟨S20000, .i1⟩
  | 5 => ⟨S_, .f32⟩
  | 6 => ⟨S_, .f32⟩
  | 7 => ⟨S20000, .f32⟩
  | 8 => ⟨S20000, .f32⟩
  | 9 => ⟨S_, .f32⟩
  | 10 => ⟨S300x5, .f32⟩
  | 11 => ⟨S_, .i32⟩
  | 12 => ⟨S_, .i32⟩
  | 13 => ⟨S20000x4, .f32⟩
  | 14 => ⟨S_, .i32⟩
  | 15 => ⟨S_, .i32⟩
  | 16 => ⟨S20000, .f32⟩
  | 17 => ⟨S300x5, .f32⟩
  | 18 => ⟨S_, .i32⟩
  | 19 => ⟨S_, .i1⟩
  | 20 => ⟨S_, .i32⟩
  | 21 => ⟨S_, .i32⟩
  | 22 => ⟨S_, .f32⟩
  | 23 => ⟨S_, .f32⟩
  | 24 => ⟨S20000, .f32⟩
  | 25 => ⟨S20000, .i1⟩
  | 26 => ⟨S20000, .i32⟩
  | 27 => ⟨S_, .i32⟩
  | 28 => ⟨S_, .i32⟩
  | 29 => ⟨S20000, .i32⟩
  | 30 => ⟨S20000, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x4, .f32⟩
  | 47 => ⟨S4, .f32⟩
  | 48 => ⟨S1, .f32⟩
  | 49 => ⟨S_, .f32⟩
  | 50 => ⟨S20000x1, .f32⟩
  | 51 => ⟨S20000, .f32⟩
  | 52 => ⟨S20000, .f32⟩
  | 53 => ⟨S20000, .f32⟩
  | 54 => ⟨S1, .f32⟩
  | 55 => ⟨S_, .f32⟩
  | 56 => ⟨S20000x1, .f32⟩
  | 57 => ⟨S20000, .f32⟩
  | 58 => ⟨S20000, .f32⟩
  | 59 => ⟨S20000, .f32⟩
  | 60 => ⟨S1, .f32⟩
  | 61 => ⟨S_, .f32⟩
  | 62 => ⟨S20000x1, .f32⟩
  | 63 => ⟨S20000, .f32⟩
  | 64 => ⟨S20000, .f32⟩
  | 65 => ⟨S20000, .f32⟩
  | 66 => ⟨S1, .f32⟩
  | 67 => ⟨S_, .f32⟩
  | 68 => ⟨S20000x1, .f32⟩
  | 69 => ⟨S20000, .f32⟩
  | 70 => ⟨S20000, .f32⟩
  | 71 => ⟨S20000, .f32⟩
  | 72 => ⟨S20000, .f32⟩
  | 73 => ⟨S_, .f32⟩
  | 74 => ⟨S_, .f32⟩
  | 75 => ⟨S20000, .f32⟩
  | 76 => ⟨S20000, .f32⟩
  | 77 => ⟨S20000, .f32⟩
  | 78 => ⟨S_, .f32⟩
  | 79 => ⟨S_, .f32⟩
  | 80 => ⟨S20000, .f32⟩
  | 81 => ⟨S20000, .f32⟩
  | 82 => ⟨S20000, .f32⟩
  | 83 => ⟨S1, .f32⟩
  | 84 => ⟨S_, .f32⟩
  | 85 => ⟨S1, .f32⟩
  | 86 => ⟨S_, .f32⟩
  | 87 => ⟨S_, .f32⟩
  | 88 => ⟨S1, .f32⟩
  | 89 => ⟨S_, .f32⟩
  | 90 => ⟨S1, .f32⟩
  | 91 => ⟨S_, .f32⟩
  | 92 => ⟨S_, .f32⟩
  | 93 => ⟨S_, .f32⟩
  | 94 => ⟨S20000x1, .f32⟩
  | 95 => ⟨S20000, .f32⟩
  | 96 => ⟨S20000x1, .f32⟩
  | 97 => ⟨S20000, .f32⟩
  | 98 => ⟨S20000, .f32⟩
  | 99 => ⟨S20000x1, .f32⟩
  | 100 => ⟨S20000, .f32⟩
  | 101 => ⟨S20000x1, .f32⟩
  | 102 => ⟨S20000, .f32⟩
  | 103 => ⟨S20000, .f32⟩
  | 104 => ⟨S20000, .f32⟩
  | 105 => ⟨S20000, .f32⟩
  | 106 => ⟨S20000, .f32⟩
  | 107 => ⟨S20000, .f32⟩
  | 108 => ⟨S_, .f32⟩
  | 109 => ⟨S20000, .f32⟩
  | 110 => ⟨S20000, .f32⟩
  | 111 => ⟨S20000, .f32⟩
  | 112 => ⟨S_, .f32⟩
  | 113 => ⟨S20000, .f32⟩
  | 114 => ⟨S20000, .i1⟩
  | 115 => ⟨S_, .f32⟩
  | 116 => ⟨S_, .f32⟩
  | 117 => ⟨S20000, .f32⟩
  | 118 => ⟨S20000, .f32⟩
  | 119 => ⟨S20000, .i32⟩
  | 120 => ⟨S20000, .i32⟩
  | 121 => ⟨S20000, .i1⟩
  | 122 => ⟨S_, .f32⟩
  | 123 => ⟨S_, .f32⟩
  | 124 => ⟨S20000, .f32⟩
  | 125 => ⟨S20000, .f32⟩
  | 126 => ⟨S_, .f32⟩
  | 127 => ⟨S_, .i1⟩
  | _ => ⟨S20000x4, .f32⟩

abbrev hbmTy0_1 (i : Nat) : BufTy := match i % 128 with
  | 0 => ⟨S1, .f32⟩
  | 1 => ⟨S5, .f32⟩
  | 2 => ⟨S_, .f32⟩
  | 3 => ⟨S5, .f32⟩
  | 4 => ⟨S5, .f32⟩
  | 5 => ⟨S300, .i32⟩
  | 6 => ⟨S_, .i32⟩
  | 7 => ⟨S300, .i32⟩
  | 8 => ⟨S300, .i1⟩
  | 9 => ⟨S300x1, .i1⟩
  | 10 => ⟨S1x5, .f32⟩
  | 11 => ⟨S300x5, .i1⟩
  | 12 => ⟨S300x5, .f32⟩
  | 13 => ⟨S300x5, .f32⟩
  | 14 => ⟨S_, .i32⟩
  | 15 => ⟨S_, .i32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_c : Ref sig .tc := ⟨.hbm, 11, rfl⟩
abbrev main_c_2 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_while0c_c_7 : Ref sig .tc := ⟨.hbm, 18, rfl⟩
abbrev main_while0c_v5 : Ref sig .tc := ⟨.hbm, 19, rfl⟩
abbrev main_while0b_c_7 : Ref sig .tc := ⟨.hbm, 20, rfl⟩
abbrev main_while0b_v5 : Ref sig .tc := ⟨.hbm, 21, rfl⟩
abbrev main_while0b_cst_8 : Ref sig .tc := ⟨.hbm, 22, rfl⟩
abbrev main_while0b_v6 : Ref sig .tc := ⟨.hbm, 23, rfl⟩
abbrev main_while0b_v7 : Ref sig .tc := ⟨.hbm, 24, rfl⟩
abbrev main_while0b_v8 : Ref sig .tc := ⟨.hbm, 25, rfl⟩
abbrev main_while0b_v9 : Ref sig .tc := ⟨.hbm, 26, rfl⟩
abbrev main_while0b_c_9 : Ref sig .tc := ⟨.hbm, 27, rfl⟩
abbrev main_while0b_call1_v0 : Ref sig .tc := ⟨.hbm, 28, rfl⟩
abbrev main_while0b_call1_v1 : Ref sig .tc := ⟨.hbm, 29, rfl⟩
abbrev main_while0b_v10 : Ref sig .tc := ⟨.hbm, 30, rfl⟩
abbrev main_while0b_c_10 : Ref sig .tc := ⟨.hbm, 31, rfl⟩
abbrev main_while0b_v11 : Ref sig .tc := ⟨.hbm, 32, rfl⟩
abbrev main_while0b_c_11 : Ref sig .tc := ⟨.hbm, 33, rfl⟩
abbrev main_while0b_v12 : Ref sig .tc := ⟨.hbm, 34, rfl⟩
abbrev main_while0b_c_12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_c_13 : Ref sig .tc := ⟨.hbm, 38, rfl⟩
abbrev main_while0b_c_14 : Ref sig .tc := ⟨.hbm, 39, rfl⟩
abbrev main_while0b_v15 : Ref sig .tc := ⟨.hbm, 40, rfl⟩
abbrev main_while0b_c_15 : Ref sig .tc := ⟨.hbm, 41, rfl⟩
abbrev main_while0b_c_16 : Ref sig .tc := ⟨.hbm, 42, rfl⟩
abbrev main_while0b_v16 : Ref sig .tc := ⟨.hbm, 43, rfl⟩
abbrev main_while0b_c_17 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_cst_18 : Ref sig .tc := ⟨.hbm, 73, rfl⟩
abbrev main_while0b_call2_v0 : Ref sig .tc := ⟨.hbm, 74, rfl⟩
abbrev main_while0b_call2_v1 : Ref sig .tc := ⟨.hbm, 75, rfl⟩
abbrev main_while0b_v45 : Ref sig .tc := ⟨.hbm, 76, rfl⟩
abbrev main_while0b_v46 : Ref sig .tc := ⟨.hbm, 77, rfl⟩
abbrev main_while0b_cst_19 : Ref sig .tc := ⟨.hbm, 78, rfl⟩
abbrev main_while0b_call3_v0 : Ref sig .tc := ⟨.hbm, 79, rfl⟩
abbrev main_while0b_call3_v1 : Ref sig .tc := ⟨.hbm, 80, rfl⟩
abbrev main_while0b_v47 : Ref sig .tc := ⟨.hbm, 81, rfl⟩
abbrev main_while0b_v48 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_v73 : Ref sig .tc := ⟨.hbm, 107, rfl⟩
abbrev main_while0b_cst_20 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_cst_21 : Ref sig .tc := ⟨.hbm, 112, rfl⟩
abbrev main_while0b_v77 : Ref sig .tc := ⟨.hbm, 113, rfl⟩
abbrev main_while0b_v78 : Ref sig .tc := ⟨.hbm, 114, rfl⟩
abbrev main_while0b_cst_22 : Ref sig .tc := ⟨.hbm, 115, rfl⟩
abbrev main_while0b_call4_v0 : Ref sig .tc := ⟨.hbm, 116, rfl⟩
abbrev main_while0b_call4_v1 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_cst_23 : Ref sig .tc := ⟨.hbm, 122, rfl⟩
abbrev main_while0b_call5_v0 : Ref sig .tc := ⟨.hbm, 123, rfl⟩
abbrev main_while0b_call5_v1 : Ref sig .tc := ⟨.hbm, 124, rfl⟩
abbrev main_while0b_v83 : Ref sig .tc := ⟨.hbm, 125, rfl⟩
abbrev main_while0b_cst_24 : Ref sig .tc := ⟨.hbm, 126, rfl⟩
abbrev main_while0b_v84 : Ref sig .tc := ⟨.hbm, 127, rfl⟩
abbrev main_while0b_v85 : Ref sig .tc := ⟨.hbm, 128, rfl⟩
abbrev main_while0b_v86 : Ref sig .tc := ⟨.hbm, 129, rfl⟩
abbrev main_while0b_cst_25 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_call7_v0 : Ref sig .tc := ⟨.hbm, 139, rfl⟩
abbrev main_while0b_call7_v1 : Ref sig .tc := ⟨.hbm, 140, rfl⟩
abbrev main_while0b_v95 : Ref sig .tc := ⟨.hbm, 141, rfl⟩
abbrev main_while0b_c_26 : Ref sig .tc := ⟨.hbm, 142, rfl⟩
abbrev main_while0b_v96 : Ref sig .tc := ⟨.hbm, 143, rfl⟩

abbrev nD : Nat := 1
abbrev τ : Topo := Topo.v7x

variable {F : FTy → Type} [FloatOps F]

abbrev main_while0_count : Scf.Loop 32 := ⟨0#32, 300#32, 1#32⟩
-- ==== Proof.Common.lean ====
module

public import proofs.«01_k».proof.KernelIdeal
public import Idealize.ShloMosaic.Lib.Pipeline.Sound
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra of the run: the rounds library's, for the pipeline's cells. -/
abbrev UR (nD : Nat) (τ : Topo) : Type := URounds (GSem nD τ sig) Unit

local notation "𝕄" => MT nD τ sig Unit (Elt F) ℕ (UR nD τ) ℕ

/-- An array of the kernel's plane of boxes, and a row of 128 lanes. -/
abbrev V2 (F : FTy → Type) := FVec F S160x128 .f32
abbrev Row (F : FTy → Type) := FVec F S1x128 .f32

/-- The whole buffer `b` held at contents `f`. -/
abbrev pt (c : Dev nD) (b : Ref sig .tc) (f : b.ty.Contents (Elt F)) : sProp 𝕄 :=
  (Memref.whole b : Memref sig .tc _ _ _).view.loc (c : Thread nD τ) ↦{fullShare} f

end Cert.Proof

end
-- ==== Proof.Spec.lean ====
module

public import proofs.«01_k».proof.Proof.Common

@[expose] public section

noncomputable section

namespace Cert.Proof

open Cert.KernelIdeal Cert.KernelIdeal.Gen

open Idealize.ShloMosaic

variable {F : FTy → Type} [FloatOps F]

/-! The kernel's passes over the twenty groups of eight rows, each as one fold. -/

/-- A group of eight rows, of floats and of box numbers. -/
abbrev C8 (F : FTy → Type) := FVec F S8x128 .f32
abbrev I8 := IVec S8x128 32

/-- `f (n-1) (… (f 0 a))`. -/
def upto {N : ℕ} {α : Type} (f : Fin N → α → α) (a : α) : (n : ℕ) → n ≤ N → α
  | 0, _ => a
  | n + 1, h => f ⟨n, h⟩ (upto f a n (Nat.le_of_succ_le h))

/-- The fold over every group. -/
def fold {N : ℕ} {α : Type} (f : Fin N → α → α) (a : α) : α := upto f a N (Nat.le_refl N)

theorem rows_inb (k : Fin 20) : ∀ a, ![8 * k.val, 0] a + S8x128.size a ≤ S160x128.size a := by
  intro a
  have := k.isLt
  fin_cases a
  · show 8 * k.val + 8 ≤ 160; omega
  · show 0 + 128 ≤ 128; omega

/-- The `k`-th group of eight rows. -/
abbrev rect (k : Fin 20) : Rect S160x128 := Rect.unit ![8 * k.val, 0] S8x128.size (rows_inb k)

/-- The `k`-th group of a plane, of floats and of box numbers. -/
def rd (v : V2 F) (k : Fin 20) : C8 F :=
  View.readAt (Elt F) (Memref.whole cc0_scratch0).view (rect k).toLoadRect v
def rdI (F : FTy → Type) (v : IVec S160x128 32) (k : Fin 20) : I8 :=
  View.readAt (Elt F) (Memref.whole cc0_scratch2).view (rect k).toLoadRect v

abbrev z8 : C8 F := broadcast S8x128 (Scalar.ofBits .f32 0x00000000#32 : F .f32)
abbrev z1 : Row F := broadcast S1x128 (Scalar.ofBits .f32 0x00000000#32 : F .f32)
abbrev big8 : I8 := broadcast S8x128 40960#32

/-- `op` over the eight rows, by three rotations. -/
def slane {α : Type} (op : (S8x128.Idx → α) → (S8x128.Idx → α) → (S8x128.Idx → α)) (v : S8x128.Idx → α) : S8x128.Idx → α :=
  have v1 := op v (dynamicRotate 0 4#32 none v rotates_S8x128_d0)
  have v2 := op v1 (dynamicRotate 0 2#32 none v1 rotates_S8x128_d0)
  op v2 (dynamicRotate 0 1#32 none v2 rotates_S8x128_d0)

/-- Each lane's highest score. -/
def colmaxS (s : Fin 20 → C8 F) : C8 F :=
  slane maximumf (fold (N := 19) (fun k a => maximumf a (s k.succ)) (s 0))

/-- The least box number of each lane that holds `cm`. -/
def colidxS (s : Fin 20 → C8 F) (fl : Fin 20 → I8) (cm : C8 F) : I8 :=
  slane minsi (fold (fun k a => minsi a (select (cmpf .oeq (s k) cm) (fl k) big8)) big8)

/-- Each lane's highest score but for box `ci`. -/
def colmax2S (s : Fin 20 → C8 F) (fl : Fin 20 → I8) (ci : I8) : C8 F :=
  slane maximumf (fold (fun k a => maximumf a (select (cmpi .eq (fl k) ci) z8 (s k))) z8)

/-- The least box number of each lane, other than `ci`, that holds `cm`. -/
def colidx2S (s : Fin 20 → C8 F) (fl : Fin 20 → I8) (ci : I8) (cm : C8 F) : I8 :=
  slane minsi (fold (fun k a => minsi a
    (select (andi (cmpf .oeq (s k) cm) (cmpi .ne (fl k) ci)) (fl k) big8)) big8)

/-- Row 0 of a group. -/
abbrev row0 (v : C8 F) : Row F := extractStridedSlice S1x128 ![0, 0] v slices_S8x128_o0_0_S1x128

/-- One coordinate of each lane's box `ci`: the sum of the coordinates masked by the number. -/
def cAcc (x : Fin 20 → C8 F) (fl : Fin 20 → I8) (ci : I8) : C8 F :=
  fold (fun k a => addf a (select (cmpi .eq (fl k) ci) (shapeCast S8x128 (x k) shapeCasts_S8x128_S8x128) z8)) z8
def coordS (x : Fin 20 → C8 F) (fl : Fin 20 → I8) (ci : I8) : Row F := row0 (slane addf (cAcc x fl ci))

/-- The lanes numbered as the highest of a row. -/
def laneHit (ln : IVec S1x128 32) (r : Row F) : IVec S1x128 1 :=
  cmpi .eq ln (broadcastTo S1x128 (shapeCast S1x1 (reduceIndex .argMax 1 S1 r reduces_S1x128_S1) shapeCasts_S1_S1x1) broadcasts_S1x1_S1x128)

/-- The sum of the hit lanes, in every lane. -/
def laneSum (hit : IVec S1x128 1) (v : Row F) : Row F :=
  addf (broadcastTo S1x128 (shapeCast S1x1
    (multiReduction .add [1] S1 (select hit v z1) 0x00000000#32 reduces_S1x128_S1 (.inl rfl) rfl)
    shapeCasts_S1_S1x1) broadcasts_S1x1_S1x128) z1

/-- The overlap of two boxes over their union, lane by lane. -/
def iouRow (a1 b1 a2 b2 p1 q1 p2 q2 : Row F) : Row F :=
  have ia := mulf (subf a2 a1) (subf b2 b1)
  have ib := mulf (subf p2 p1) (subf q2 q1)
  have it := mulf (maximumf (subf (minimumf a2 p2) (maximumf a1 p1)) z1)
    (maximumf (subf (minimumf b2 q2) (maximumf b1 q1)) z1)
  divf it (addf (subf (addf ia ib) it) (broadcast S1x128 (Scalar.ofBits .f32 0x3089705F#32 : F .f32)))

/-- `1` where the boxes overlap little enough. -/
def okRow (iou : Row F) : Row F :=
  select (cmpf .ogt iou (broadcast S1x128 (Scalar.ofBits .f32 0x3EE66666#32 : F .f32))) z1
    (broadcast S1x128 (Scalar.ofBits .f32 0x3F800000#32 : F .f32))

/-- A chosen box: its score and corners, in every lane. -/
structure Pick (F : FTy → Type) where
  m : Row F
  x1 : Row F
  y1 : Row F
  x2 : Row F
  y2 : Row F

/-- What a search returns: the first and second boxes and whether the second is kept. -/
structure Found (F : FTy → Type) where
  a : Pick F
  b : Pick F
  acc : Row F

/-- Each lane's two best: scores and corners. -/
structure Lanes (F : FTy → Type) where
  cm1 : Row F
  cm2 : Row F
  x11 : Row F
  y11 : Row F
  x21 : Row F
  y21 : Row F
  x12 : Row F
  y12 : Row F
  x22 : Row F
  y22 : Row F

/-- The pass over the rows. -/
def lanes (x1 y1 x2 y2 s : Fin 20 → C8 F) (fl : Fin 20 → I8) : Lanes F :=
  have cm := colmaxS s
  have ci := colidxS s fl cm
  have cm' := colmax2S s fl ci
  have ci' := colidx2S s fl ci cm'
  ⟨row0 cm, row0 cm', coordS x1 fl ci, coordS y1 fl ci, coordS x2 fl ci, coordS y2 fl ci,
    coordS x1 fl ci', coordS y1 fl ci', coordS x2 fl ci', coordS y2 fl ci'⟩

/-- The choice over the lanes. -/
def choose (ln : IVec S1x128 32) (L : Lanes F) : Found F :=
  have h1 := laneHit ln L.cm1
  have mm := select h1 L.cm2 L.cm1
  have h2 := laneHit ln mm
  have px1 := select h1 L.x12 L.x11
  have py1 := select h1 L.y12 L.y11
  have px2 := select h1 L.x22 L.x21
  have py2 := select h1 L.y22 L.y21
  have a : Pick F := ⟨laneSum h1 L.cm1, laneSum h1 L.x11, laneSum h1 L.y11, laneSum h1 L.x21, laneSum h1 L.y21⟩
  have b : Pick F := ⟨laneSum h2 mm, laneSum h2 px1, laneSum h2 py1, laneSum h2 px2, laneSum h2 py2⟩
  ⟨a, b, laneSum h2 (okRow (iouRow a.x1 a.y1 a.x2 a.y2 px1 py1 px2 py2))⟩

/-- One group of rows after a box has struck out what it overlaps. -/
def suppC (b1 b2 b3 b4 ba : Row F) (x1 y1 x2 y2 ar lv : C8 F) : C8 F :=
  have up : Row F → C8 F := fun r => broadcastTo S8x128 r broadcasts_S1x128_S8x128
  have sc : C8 F → C8 F := fun r => shapeCast S8x128 r shapeCasts_S8x128_S8x128
  have it := mulf (maximumf (subf (minimumf (up b3) (sc x2)) (maximumf (up b1) (sc x1))) z8)
    (maximumf (subf (minimumf (up b4) (sc y2)) (maximumf (up b2) (sc y1))) z8)
  have iou := divf it (addf (subf (addf (up ba) ar) it) (broadcast S8x128 (Scalar.ofBits .f32 0x3089705F#32 : F .f32)))
  sc (select (cmpf .ogt iou (broadcast S8x128 (Scalar.ofBits .f32 0x3EE66666#32 : F .f32))) z8 lv)

/-- A plane from its groups. -/
def planeOf {α : Type} (p : Fin 20 → S8x128.Idx → α) : S160x128.Idx → α := fun i =>
  p ⟨(i 0).val / 8, Nat.div_lt_of_lt_mul (i 0).isLt⟩
    (fun a => match a with
      | 0 => ⟨(i 0).val % 8, Nat.mod_lt _ (by decide)⟩
      | 1 => i 1)

/-- The plane of scores after a box has struck out what it overlaps. -/
def supp (b1 b2 b3 b4 ba : Row F) (x1 y1 x2 y2 ar lv : V2 F) : V2 F :=
  planeOf fun k => suppC b1 b2 b3 b4 ba (rd x1 k) (rd y1 k) (rd x2 k) (rd y2 k) (rd ar k) (rd lv k)

/-- The area of a picked box. -/
def areaOf (p : Pick F) : Row F := mulf (subf p.x2 p.x1) (subf p.y2 p.y1)

/-- The search over planes. -/
def search (ln : IVec S1x128 32) (x1 y1 x2 y2 : V2 F) (fl : IVec S160x128 32) (lv : V2 F) : Found F :=
  choose ln (lanes (rd x1) (rd y1) (rd x2) (rd y2) (rd lv) (rdI F fl))

/-- The row stored for a pick. -/
def entryRow (ln : IVec S1x128 32) (p : Pick F) : Row F :=
  have at' : BitVec 32 → Row F → Row F := fun n r => select (cmpi .eq ln (broadcast S1x128 n)) r z1
  select (cmpf .ogt p.m z1)
    (addf (addf (addf (addf (at' 0#32 p.x1) (at' 1#32 p.y1)) (at' 2#32 p.x2)) (at' 3#32 p.y2)) (at' 4#32 p.m)) z1

/-- The second pick as it strikes out: zero unless kept. -/
def keep (acc r : Row F) : Row F :=
  select (cmpf .ogt acc (broadcast S1x128 (Scalar.ofBits .f32 0x3F000000#32 : F .f32))) r z1

end Cert.Proof
-- ==== Proof.Pieces.lean ====
module

public import proofs.«01_k».proof.Proof.Spec
public import Idealize.ShloMosaic.Lib.Pipeline.FrameBody

@[expose] public section

noncomputable section

namespace Cert.Proof

open Cert.KernelIdeal Cert.KernelIdeal.Gen

open Idealize.ShloMosaic

variable {F : FTy → Type} [FloatOps F]

/-! A plane stored group by group, and read back. -/

/-- The first `n` groups stored over the stores `L`, the last first. -/
def pcs (p : Fin 20 → C8 F) (L : List (View.Piece (Elt F) S160x128 .f32)) : (n : ℕ) → n ≤ 20 → List (View.Piece (Elt F) S160x128 .f32)
  | 0, _ => L
  | n + 1, h => ⟨rect ⟨n, h⟩, p ⟨n, h⟩⟩ :: pcs p L n (Nat.le_of_succ_le h)

/-- The same where each group is computed from the group as it reads at that point. -/
def pcsR (f : Fin 20 → C8 F → C8 F) (L : List (View.Piece (Elt F) S160x128 .f32)) : (n : ℕ) → n ≤ 20 → List (View.Piece (Elt F) S160x128 .f32)
  | 0, _ => L
  | n + 1, h => ⟨rect ⟨n, h⟩, f ⟨n, h⟩ ((Memref.whole cc0_scratch0).view.readCov (pcsR f L n (Nat.le_of_succ_le h)) (rect ⟨n, h⟩).toLoadRect)⟩
      :: pcsR f L n (Nat.le_of_succ_le h)

theorem mem_rect (k : Fin 20) (j : S160x128.Idx) : j ∈ (rect k).set ↔ (j 0).val / 8 = k.val := by
  rw [Rect.mem_set_unit]
  constructor
  · intro h
    have h0 : 8 * k.val ≤ (j 0).val ∧ (j 0).val < 8 * k.val + 8 := h 0
    omega
  · intro h a
    fin_cases a
    · show 8 * k.val ≤ (j 0).val ∧ (j 0).val < 8 * k.val + 8
      omega
    · show 0 ≤ (j 1).val ∧ (j 1).val < 0 + 128
      exact ⟨Nat.zero_le _, by have : (j 1).val < 128 := (j 1).isLt; omega⟩

/-- Where a group's rectangle puts an index, the plane of groups has the group's value. -/
theorem planeOf_emb {α : Type} (p : Fin 20 → S8x128.Idx → α) (k : Fin 20) (x : S8x128.Idx) :
    planeOf p ((rect k).emb x) = p k x := by
  have h0 : (((rect k).emb x) 0).val = 8 * k.val + (x 0).val := by
    show 8 * k.val + 1 * (x 0).val = _; omega
  have hx : (x 0).val < 8 := (x 0).isLt
  unfold planeOf
  have hk : (⟨(((rect k).emb x) 0).val / 8, Nat.div_lt_of_lt_mul (((rect k).emb x) 0).isLt⟩ : Fin 20) = k :=
    Fin.ext (by show (((rect k).emb x) 0).val / 8 = k.val; omega)
  rw [hk]
  congr 1
  funext a
  match a with
  | 0 => exact Fin.ext (by show (((rect k).emb x) 0).val % 8 = (x 0).val; omega)
  | 1 => exact Fin.ext (by show 0 + 1 * (x 1).val = (x 1).val; omega)

theorem rd_planeOf (p : Fin 20 → C8 F) (k : Fin 20) : rd (planeOf p) k = p k :=
  funext fun x => planeOf_emb p k x

/-- The stores read back at a row of a stored group, and at a row of a group not yet stored. -/
theorem canon_pcs (p : Fin 20 → C8 F) (L : List (View.Piece (Elt F) S160x128 .f32)) (i : S160x128.Idx) :
    ∀ (n : ℕ) (h : n ≤ 20), View.canon (pcs p L n h) i = if (i 0).val / 8 < n then planeOf p i else View.canon L i
  | 0, _ => by rw [if_neg (Nat.not_lt_zero _)]; rfl
  | n + 1, h => by
    unfold pcs
    by_cases hi : i ∈ (rect ⟨n, h⟩).set
    · have hn := (mem_rect _ _).mp hi
      obtain ⟨x, rfl⟩ : ∃ x, (rect ⟨n, h⟩).emb x = i := (rect ⟨n, h⟩).exists_idx_of_mem hi
      rw [View.canon_cons_emb, if_pos (by rw [hn]; exact Nat.lt_succ_self n), planeOf_emb]
    · refine (View.canon_cons_of_not_mem (⟨rect ⟨n, h⟩, p ⟨n, h⟩⟩ : View.Piece (Elt F) S160x128 .f32)
        (pcs p L n (Nat.le_of_succ_le h)) hi).trans ((canon_pcs p L i n (Nat.le_of_succ_le h)).trans ?_)
      have hn : (i 0).val / 8 ≠ n := fun e => hi ((mem_rect _ _).mpr e)
      by_cases hlt : (i 0).val / 8 < n
      · rw [if_pos hlt, if_pos (Nat.lt_succ_of_lt hlt)]
      · rw [if_neg hlt, if_neg (by omega)]

theorem row_lt (i : S160x128.Idx) : (i 0).val / 8 < 20 := Nat.div_lt_of_lt_mul (i 0).isLt

theorem canon_pcs_all (p : Fin 20 → C8 F) (L : List (View.Piece (Elt F) S160x128 .f32)) :
    View.canon (pcs p L 20 (Nat.le_refl 20)) = planeOf p :=
  funext fun i => by rw [canon_pcs, if_pos (row_lt i)]

/-- A load of a group after stores that leave the plane `P` reads the group of `P`. -/
theorem readCov_canon (L : List (View.Piece (Elt F) S160x128 .f32)) (P : V2 F) (hL : View.canon L = P) (k : Fin 20) :
    (Memref.whole cc0_scratch0).view.readCov L (rect k).toLoadRect = rd P k := by
  subst hL
  exact View.readCov_eq_canon' (Memref.whole cc0_scratch0).view L (rect k).toLoadRect

/-- Groups computed each from its own group as it stood. -/
theorem pcsR_eq (f : Fin 20 → C8 F → C8 F) (L : List (View.Piece (Elt F) S160x128 .f32)) (P : V2 F) (hL : View.canon L = P) :
    ∀ (n : ℕ) (h : n ≤ 20), pcsR f L n h = pcs (fun k => f k (rd P k)) L n h
  | 0, _ => rfl
  | n + 1, h => by
    unfold pcsR pcs
    rw [pcsR_eq f L P hL n]
    congr 3
    rw [View.readCov_eq_canon']
    funext x
    have h0 : (((rect ⟨n, h⟩).idx x) 0).val / 8 = n := (mem_rect ⟨n, h⟩ _).mp ((rect ⟨n, h⟩).idx_mem x)
    exact (canon_pcs _ L _ n _).trans (by rw [if_neg (by omega), hL]; rfl)

theorem mem_pcs (p : Fin 20 → C8 F) (L : List (View.Piece (Elt F) S160x128 .f32)) (y : S160x128.Idx) (n : ℕ) :
    ∀ (h : n ≤ 20), (y 0).val / 8 < n → ∃ q ∈ pcs p L n h, y ∈ q.1.set := by
  induction n with
  | zero => exact fun _ hy => absurd hy (Nat.not_lt_zero _)
  | succ n ih =>
    intro h hy
    by_cases hn : (y 0).val / 8 = n
    · refine ⟨(⟨rect ⟨n, h⟩, p ⟨n, h⟩⟩ : View.Piece (Elt F) S160x128 .f32), ?_, (mem_rect ⟨n, h⟩ y).mpr hn⟩
      unfold pcs
      exact List.mem_cons_self
    · obtain ⟨q, hq, hm⟩ := ih (Nat.le_of_succ_le h) (by omega)
      refine ⟨q, ?_, hm⟩
      unfold pcs
      exact List.mem_cons_of_mem _ hq

/-- What stores that fill the plane leave, whatever stood there. -/
theorem writes_full (f : V2 F) (M : List (View.Piece (Elt F) S160x128 .f32)) (h : ∀ y, ∃ q ∈ M, y ∈ q.1.set) :
    (Memref.whole cc0_scratch0).view.writes (Elt F) f M = View.canon M :=
  (View.read_whole cc0_scratch0 ((Memref.whole cc0_scratch0).view.writes (Elt F) f M)).symm.trans
    (View.read_writes_eq_canon (Memref.whole cc0_scratch0).view (f : (Memref.whole cc0_scratch0).view.ty.Contents (Elt F)) M h)

theorem writes_pcs (f : V2 F) (p : Fin 20 → C8 F) (L : List (View.Piece (Elt F) S160x128 .f32)) :
    (Memref.whole cc0_scratch0).view.writes (Elt F) f (pcs p L 20 (Nat.le_refl 20)) = planeOf p := by
  rw [writes_full f _ (fun y => mem_pcs p L y 20 (Nat.le_refl 20) (row_lt y)), canon_pcs_all]

end Cert.Proof
-- ==== Proof.Trip.lean ====
module

public import proofs.«01_k».proof.Proof.Common

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

set_option maxHeartbeats 4000000 in
def tripRun (c : Dev nD) (v24 : IVec S1x128 32) (k : BitVec 32) (hk : Scalar.cmpi .slt k 300#32 = 1#1)
    (hc1 : k0_chk1 k) (hc2 : ∀ b, k0_chk2 k b)
    (w1 w2 w3 w4 w5 w6 w7 w8 w9 w10 w11 : Row F)
    (x1 y1 x2 y2 ar lv : V2 F) (fl : IVec S160x128 32) (out : FVec F S300x128 .f32) :
    { W : FVec F S300x128 .f32 × V2 F × BitVec 32 × Row F × Row F × Row F × Row F × Row F × Row F × Row F × Row F × Row F × Row F × Row F //
      ∀ (E : Set ℕ) (bd : Option ℕ) (Q : (BitVec 32 × Row F × Row F × Row F × Row F × Row F × Row F × Row F × Row F × Row F × Row F × Row F) → sProp 𝕄),
        iprop(pt c cc0_stg0_0 x1 ∗ pt c cc0_stg1_0 y1 ∗ pt c cc0_stg2_0 x2 ∗ pt c cc0_stg3_0 y2 ∗ pt c cc0_stg5_0 out
            ∗ pt c cc0_scratch0 lv ∗ pt c cc0_scratch1 ar ∗ pt c cc0_scratch2 fl
            ∗ (iprop(pt c cc0_stg0_0 x1 ∗ pt c cc0_stg1_0 y1 ∗ pt c cc0_stg2_0 x2 ∗ pt c cc0_stg3_0 y2 ∗ pt c cc0_stg5_0 W.1
                ∗ pt c cc0_scratch0 W.2.1 ∗ pt c cc0_scratch1 ar ∗ pt c cc0_scratch2 fl) -∗
                wp frame (wpE (defs₀ (F := F)) Variants.nat (c : Thread nD τ) bd) E (Prog.op (.call (1 : (Λ₀ F).Label)
                 ⟨v24, Memref.whole cc0_stg5_0, Memref.isWhole_whole _, Memref.whole cc0_stg2_0, Memref.isWhole_whole _, Memref.whole cc0_stg0_0, Memref.isWhole_whole _, Memref.whole cc0_stg3_0, Memref.isWhole_whole _, Memref.whole cc0_stg1_0, Memref.isWhole_whole _, Memref.whole cc0_scratch1, Memref.isWhole_whole _, Memref.whole cc0_scratch0, Memref.isWhole_whole _, Memref.whole cc0_scratch2, Memref.isWhole_whole _, W.2.2.1, W.2.2.2.1, W.2.2.2.2.1, W.2.2.2.2.2.1, W.2.2.2.2.2.2.1, W.2.2.2.2.2.2.2.1, W.2.2.2.2.2.2.2.2.1, W.2.2.2.2.2.2.2.2.2.1, W.2.2.2.2.2.2.2.2.2.2.1, W.2.2.2.2.2.2.2.2.2.2.2.1, W.2.2.2.2.2.2.2.2.2.2.2.2.1, W.2.2.2.2.2.2.2.2.2.2.2.2.2⟩) Prog.ret) Q))
        ⊢ wp frame (wpE (defs₀ (F := F)) Variants.nat (c : Thread nD τ) bd) E
            (cc0_while1 v24 (Memref.whole cc0_stg5_0) (Memref.isWhole_whole _) (Memref.whole cc0_stg2_0) (Memref.isWhole_whole _) (Memref.whole cc0_stg0_0) (Memref.isWhole_whole _) (Memref.whole cc0_stg3_0) (Memref.isWhole_whole _) (Memref.whole cc0_stg1_0) (Memref.isWhole_whole _) (Memref.whole cc0_scratch1) (Memref.isWhole_whole _) (Memref.whole cc0_scratch0) (Memref.isWhole_whole _) (Memref.whole cc0_scratch2) (Memref.isWhole_whole _) k w1 w2 w3 w4 w5 w6 w7 w8 w9 w10 w11) Q } := by
  refine ⟨⟨?_, ?_, ?_, ?_, ?_, ?_, ?_, ?_, ?_, ?_, ?_, ?_, ?_, ?_⟩, fun E bd Q => ?run⟩
  case run =>
    rw [cc0_while1_eq_skeleton]; unfold cc0_while1_skel
    simp only [hk, ↓reduceIte]

    iintro ⟨H0, H1, H2, H3, H5, H6, H7, H8, Hk⟩
    sl_exec_parts (disch := first | exact hk | exact hc1 | exact hc2 _)
    iapply Hk
    isplitl [H0]; · iexact H0
    isplitl [H1]; · iexact H1
    isplitl [H2]; · iexact H2
    isplitl [H3]; · iexact H3
    isplitl [H5]; · iexact H5
    isplitl [H6]; · iexact H6
    isplitl [H7]; · iexact H7
    iexact H8

end Cert.Proof
end
-- ==== Proof.TripEq.lean ====
module

public import proofs.«01_k».proof.Proof.Pieces
public import proofs.«01_k».proof.Proof.Trip

@[expose] public section

noncomputable section

namespace Cert.Proof

open Cert.KernelIdeal Cert.KernelIdeal.Gen

open Idealize.ShloMosaic

variable {F : FTy → Type} [FloatOps F]

section
variable (ln : IVec S1x128 32) (w7 w8 w9 w10 w11 : Row F) (x1 y1 x2 y2 ar lv : V2 F) (fl : IVec S160x128 32)

/-- The groups the first strike leaves. -/
def sup1 (k : Fin 20) : C8 F :=
  suppC (keep w11 w7) (keep w11 w8) (keep w11 w9) (keep w11 w10) (keep w11 (areaOf ⟨w11, w7, w8, w9, w10⟩))
    (rd x1 k) (rd y1 k) (rd x2 k) (rd y2 k) (rd ar k) (rd lv k)

theorem trip_sup1 : tripRun.sl.H6_20 w7 w8 w9 w10 w11 x1 y1 x2 y2 ar lv
    = pcs (sup1 w7 w8 w9 w10 w11 x1 y1 x2 y2 ar lv) [] 20 (by decide) := rfl

/-- The scores as the search reads them. -/
def sv (k : Fin 20) : C8 F :=
  (Memref.whole cc0_scratch0).view.readCov (tripRun.sl.H6_20 w7 w8 w9 w10 w11 x1 y1 x2 y2 ar lv) (rect k).toLoadRect

theorem trip_cm : tripRun.sl.r_24 w7 w8 w9 w10 w11 x1 y1 x2 y2 ar lv = colmaxS (sv w7 w8 w9 w10 w11 x1 y1 x2 y2 ar lv) := rfl

theorem trip_ci : tripRun.sl.r_33 w7 w8 w9 w10 w11 x1 y1 x2 y2 ar lv fl
    = colidxS (sv w7 w8 w9 w10 w11 x1 y1 x2 y2 ar lv) (rdI F fl) (tripRun.sl.r_24 w7 w8 w9 w10 w11 x1 y1 x2 y2 ar lv) := rfl

theorem trip_cm2 : tripRun.sl.r_38 w7 w8 w9 w10 w11 x1 y1 x2 y2 ar lv fl
    = colmax2S (sv w7 w8 w9 w10 w11 x1 y1 x2 y2 ar lv) (rdI F fl) (tripRun.sl.r_33 w7 w8 w9 w10 w11 x1 y1 x2 y2 ar lv fl) := rfl

theorem trip_ci2 : tripRun.sl.r_47 w7 w8 w9 w10 w11 x1 y1 x2 y2 ar lv fl
    = colidx2S (sv w7 w8 w9 w10 w11 x1 y1 x2 y2 ar lv) (rdI F fl) (tripRun.sl.r_33 w7 w8 w9 w10 w11 x1 y1 x2 y2 ar lv fl)
      (tripRun.sl.r_38 w7 w8 w9 w10 w11 x1 y1 x2 y2 ar lv fl) := rfl

theorem trip_x11 : tripRun.sl.r_252 w7 w8 w9 w10 w11 x1 y1 x2 y2 ar lv fl
    = coordS (rd x1) (rdI F fl) (tripRun.sl.r_33 w7 w8 w9 w10 w11 x1 y1 x2 y2 ar lv fl) := rfl
theorem trip_y11 : tripRun.sl.r_253 w7 w8 w9 w10 w11 x1 y1 x2 y2 ar lv fl
    = coordS (rd y1) (rdI F fl) (tripRun.sl.r_33 w7 w8 w9 w10 w11 x1 y1 x2 y2 ar lv fl) := rfl
theorem trip_x21 : tripRun.sl.r_254 w7 w8 w9 w10 w11 x1 y1 x2 y2 ar lv fl
    = coordS (rd x2) (rdI F fl) (tripRun.sl.r_33 w7 w8 w9 w10 w11 x1 y1 x2 y2 ar lv fl) := rfl
theorem trip_y21 : tripRun.sl.r_255 w7 w8 w9 w10 w11 x1 y1 x2 y2 ar lv fl
    = coordS (rd y2) (rdI F fl) (tripRun.sl.r_33 w7 w8 w9 w10 w11 x1 y1 x2 y2 ar lv fl) := rfl
theorem trip_x12 : tripRun.sl.r_256 w7 w8 w9 w10 w11 x1 y1 x2 y2 ar lv fl
    = coordS (rd x1) (rdI F fl) (tripRun.sl.r_47 w7 w8 w9 w10 w11 x1 y1 x2 y2 ar lv fl) := rfl
theorem trip_y12 : tripRun.sl.r_257 w7 w8 w9 w10 w11 x1 y1 x2 y2 ar lv fl
    = coordS (rd y1) (rdI F fl) (tripRun.sl.r_47 w7 w8 w9 w10 w11 x1 y1 x2 y2 ar lv fl) := rfl
theorem trip_x22 : tripRun.sl.r_258 w7 w8 w9 w10 w11 x1 y1 x2 y2 ar lv fl
    = coordS (rd x2) (rdI F fl) (tripRun.sl.r_47 w7 w8 w9 w10 w11 x1 y1 x2 y2 ar lv fl) := rfl
theorem trip_y22 : tripRun.sl.r_259 w7 w8 w9 w10 w11 x1 y1 x2 y2 ar lv fl
    = coordS (rd y2) (rdI F fl) (tripRun.sl.r_47 w7 w8 w9 w10 w11 x1 y1 x2 y2 ar lv fl) := rfl

/-- Each lane's two best, as the run names them. -/
theorem trip_lanes : lanes (rd x1) (rd y1) (rd x2) (rd y2) (sv w7 w8 w9 w10 w11 x1 y1 x2 y2 ar lv) (rdI F fl)
    = ⟨tripRun.sl.r_260 w7 w8 w9 w10 w11 x1 y1 x2 y2 ar lv,
      row0 (tripRun.sl.r_38 w7 w8 w9 w10 w11 x1 y1 x2 y2 ar lv fl),
      tripRun.sl.r_252 w7 w8 w9 w10 w11 x1 y1 x2 y2 ar lv fl, tripRun.sl.r_253 w7 w8 w9 w10 w11 x1 y1 x2 y2 ar lv fl,
      tripRun.sl.r_254 w7 w8 w9 w10 w11 x1 y1 x2 y2 ar lv fl, tripRun.sl.r_255 w7 w8 w9 w10 w11 x1 y1 x2 y2 ar lv fl,
      tripRun.sl.r_256 w7 w8 w9 w10 w11 x1 y1 x2 y2 ar lv fl, tripRun.sl.r_257 w7 w8 w9 w10 w11 x1 y1 x2 y2 ar lv fl,
      tripRun.sl.r_258 w7 w8 w9 w10 w11 x1 y1 x2 y2 ar lv fl, tripRun.sl.r_259 w7 w8 w9 w10 w11 x1 y1 x2 y2 ar lv fl⟩ := by
  unfold lanes
  rw [trip_x11, trip_y11, trip_x21, trip_y21, trip_x12, trip_y12, trip_x22, trip_y22, trip_ci2, trip_cm2, trip_ci, trip_cm]
  rfl

/-- The search, as the run names what it returns. -/
theorem trip_found : choose ln (lanes (rd x1) (rd y1) (rd x2) (rd y2) (sv w7 w8 w9 w10 w11 x1 y1 x2 y2 ar lv) (rdI F fl))
    = ⟨⟨tripRun.sl.r_266 ln w7 w8 w9 w10 w11 x1 y1 x2 y2 ar lv, tripRun.sl.r_267 ln w7 w8 w9 w10 w11 x1 y1 x2 y2 ar lv fl,
        tripRun.sl.r_268 ln w7 w8 w9 w10 w11 x1 y1 x2 y2 ar lv fl, tripRun.sl.r_269 ln w7 w8 w9 w10 w11 x1 y1 x2 y2 ar lv fl,
        tripRun.sl.r_270 ln w7 w8 w9 w10 w11 x1 y1 x2 y2 ar lv fl⟩,
      ⟨tripRun.sl.r_273 ln w7 w8 w9 w10 w11 x1 y1 x2 y2 ar lv fl, tripRun.sl.r_274 ln w7 w8 w9 w10 w11 x1 y1 x2 y2 ar lv fl,
        tripRun.sl.r_276 ln w7 w8 w9 w10 w11 x1 y1 x2 y2 ar lv fl, tripRun.sl.r_277 ln w7 w8 w9 w10 w11 x1 y1 x2 y2 ar lv fl,
        tripRun.sl.r_278 ln w7 w8 w9 w10 w11 x1 y1 x2 y2 ar lv fl⟩,
      tripRun.sl.r_279 ln w7 w8 w9 w10 w11 x1 y1 x2 y2 ar lv fl⟩ := by
  rw [trip_lanes]
  rfl

/-- The plane after the second pick of the trip before has struck. -/
def struck2 (w : Found F) (x1 y1 x2 y2 ar lv : V2 F) : V2 F :=
  supp (keep w.acc w.b.x1) (keep w.acc w.b.y1) (keep w.acc w.b.x2) (keep w.acc w.b.y2) (keep w.acc (areaOf w.b)) x1 y1 x2 y2 ar lv

/-- The plane after the first pick has struck. -/
def struck1 (w : Found F) (x1 y1 x2 y2 ar lv : V2 F) : V2 F :=
  supp w.a.x1 w.a.y1 w.a.x2 w.a.y2 (areaOf w.a) x1 y1 x2 y2 ar lv

/-- Whether the second pick is kept, as the kernel tests it. -/
def keepBit (acc : Row F) : BitVec 1 :=
  Scalar.cmpf .ogt (k0_pay342 acc) (Scalar.ofBits .f32 0x3F000000#32)

/-- The output after a trip. -/
def stepOut (k : BitVec 32) (hc1 : k0_chk1 k) (hc2 : ∀ b, k0_chk2 k b) (w : Found F) (out : FVec F S300x128 .f32) :
    FVec F S300x128 .f32 :=
  if h : k0_cond1 k (keepBit w.acc) = 1#1 then
    (Memref.whole cc0_stg5_0).view.writes (Elt F) out
      [⟨Rect.unit (s := S300x128) (k0_off2 k) S1x128.size (k0_off2_inb k _ (hc2 _) h), entryRow ln w.b⟩,
        ⟨Rect.unit (s := S300x128) (k0_off1 k) S1x128.size (k0_off1_inb k hc1), entryRow ln w.a⟩]
  else (Memref.whole cc0_stg5_0).view.writes (Elt F) out
      [⟨Rect.unit (s := S300x128) (k0_off1 k) S1x128.size (k0_off1_inb k hc1), entryRow ln w.a⟩]

theorem sv_eq (w : Found F) : sv w.b.x1 w.b.y1 w.b.x2 w.b.y2 w.acc x1 y1 x2 y2 ar lv
    = rd (struck2 w x1 y1 x2 y2 ar lv) := by
  funext k
  unfold sv
  rw [trip_sup1]
  exact readCov_canon _ _ (canon_pcs_all _ _) k

/-- A group as the new first pick strikes it. -/
def strikeRow (k : Fin 20) (s : C8 F) : C8 F :=
  suppC (tripRun.sl.r_267 ln w7 w8 w9 w10 w11 x1 y1 x2 y2 ar lv fl) (tripRun.sl.r_268 ln w7 w8 w9 w10 w11 x1 y1 x2 y2 ar lv fl)
    (tripRun.sl.r_269 ln w7 w8 w9 w10 w11 x1 y1 x2 y2 ar lv fl) (tripRun.sl.r_270 ln w7 w8 w9 w10 w11 x1 y1 x2 y2 ar lv fl)
    (areaOf ⟨tripRun.sl.r_266 ln w7 w8 w9 w10 w11 x1 y1 x2 y2 ar lv, tripRun.sl.r_267 ln w7 w8 w9 w10 w11 x1 y1 x2 y2 ar lv fl, tripRun.sl.r_268 ln w7 w8 w9 w10 w11 x1 y1 x2 y2 ar lv fl,
      tripRun.sl.r_269 ln w7 w8 w9 w10 w11 x1 y1 x2 y2 ar lv fl, tripRun.sl.r_270 ln w7 w8 w9 w10 w11 x1 y1 x2 y2 ar lv fl⟩)
    (rd x1 k) (rd y1 k) (rd x2 k) (rd y2 k) (rd ar k) s

theorem trip_sup2 : tripRun.sl.H6_39 ln w7 w8 w9 w10 w11 x1 y1 x2 y2 ar lv fl
    = pcsR (strikeRow ln w7 w8 w9 w10 w11 x1 y1 x2 y2 ar lv fl) (tripRun.sl.H6_20 w7 w8 w9 w10 w11 x1 y1 x2 y2 ar lv) 19 (by decide) := rfl

/-- What a trip leaves, as the run names it. -/
theorem trip_raw (c : Dev nD) (k : BitVec 32) (hk : Scalar.cmpi .slt k 300#32 = 1#1)
    (hc1 : k0_chk1 k) (hc2 : ∀ b, k0_chk2 k b) (w2 w3 w4 w5 w6 w1 : Row F) (out : FVec F S300x128 .f32) :
    (tripRun c ln k hk hc1 hc2 w1 w2 w3 w4 w5 w6 w7 w8 w9 w10 w11 x1 y1 x2 y2 ar lv fl out).1
    = (stepOut ln k hc1 hc2 ⟨⟨w1, w2, w3, w4, w5⟩, ⟨w6, w7, w8, w9, w10⟩, w11⟩ out,
        (Memref.whole cc0_scratch0).view.writes (Elt F) lv
          (pcsR (strikeRow ln w7 w8 w9 w10 w11 x1 y1 x2 y2 ar lv fl) (tripRun.sl.H6_20 w7 w8 w9 w10 w11 x1 y1 x2 y2 ar lv) 20 (Nat.le_refl 20)),
        Scalar.addi (Scalar.addi k 1#32) (Scalar.extui (keepBit w11)),
        tripRun.sl.r_266 ln w7 w8 w9 w10 w11 x1 y1 x2 y2 ar lv, tripRun.sl.r_267 ln w7 w8 w9 w10 w11 x1 y1 x2 y2 ar lv fl, tripRun.sl.r_268 ln w7 w8 w9 w10 w11 x1 y1 x2 y2 ar lv fl, tripRun.sl.r_269 ln w7 w8 w9 w10 w11 x1 y1 x2 y2 ar lv fl,
        tripRun.sl.r_270 ln w7 w8 w9 w10 w11 x1 y1 x2 y2 ar lv fl, tripRun.sl.r_273 ln w7 w8 w9 w10 w11 x1 y1 x2 y2 ar lv fl, tripRun.sl.r_274 ln w7 w8 w9 w10 w11 x1 y1 x2 y2 ar lv fl, tripRun.sl.r_276 ln w7 w8 w9 w10 w11 x1 y1 x2 y2 ar lv fl,
        tripRun.sl.r_277 ln w7 w8 w9 w10 w11 x1 y1 x2 y2 ar lv fl, tripRun.sl.r_278 ln w7 w8 w9 w10 w11 x1 y1 x2 y2 ar lv fl, tripRun.sl.r_279 ln w7 w8 w9 w10 w11 x1 y1 x2 y2 ar lv fl) := rfl

/-- What a trip leaves: with `lv'` the scores once the second pick has struck, the search over `lv'`, and
    `lv'` struck by the first pick found. -/
theorem trip_eq (c : Dev nD) (k : BitVec 32) (hk : Scalar.cmpi .slt k 300#32 = 1#1)
    (hc1 : k0_chk1 k) (hc2 : ∀ b, k0_chk2 k b) (w : Found F) (out : FVec F S300x128 .f32) :
    (tripRun c ln k hk hc1 hc2 w.a.m w.a.x1 w.a.y1 w.a.x2 w.a.y2 w.b.m w.b.x1 w.b.y1 w.b.x2 w.b.y2 w.acc
      x1 y1 x2 y2 ar lv fl out).1
    = (stepOut ln k hc1 hc2 w out,
        struck1 (search ln x1 y1 x2 y2 fl (struck2 w x1 y1 x2 y2 ar lv)) x1 y1 x2 y2 ar (struck2 w x1 y1 x2 y2 ar lv),
        Scalar.addi (Scalar.addi k 1#32) (Scalar.extui (keepBit w.acc)),
        (search ln x1 y1 x2 y2 fl (struck2 w x1 y1 x2 y2 ar lv)).a.m,
        (search ln x1 y1 x2 y2 fl (struck2 w x1 y1 x2 y2 ar lv)).a.x1,
        (search ln x1 y1 x2 y2 fl (struck2 w x1 y1 x2 y2 ar lv)).a.y1,
        (search ln x1 y1 x2 y2 fl (struck2 w x1 y1 x2 y2 ar lv)).a.x2,
        (search ln x1 y1 x2 y2 fl (struck2 w x1 y1 x2 y2 ar lv)).a.y2,
        (search ln x1 y1 x2 y2 fl (struck2 w x1 y1 x2 y2 ar lv)).b.m,
        (search ln x1 y1 x2 y2 fl (struck2 w x1 y1 x2 y2 ar lv)).b.x1,
        (search ln x1 y1 x2 y2 fl (struck2 w x1 y1 x2 y2 ar lv)).b.y1,
        (search ln x1 y1 x2 y2 fl (struck2 w x1 y1 x2 y2 ar lv)).b.x2,
        (search ln x1 y1 x2 y2 fl (struck2 w x1 y1 x2 y2 ar lv)).b.y2,
        (search ln x1 y1 x2 y2 fl (struck2 w x1 y1 x2 y2 ar lv)).acc) := by
  have hs := trip_found ln w.b.x1 w.b.y1 w.b.x2 w.b.y2 w.acc x1 y1 x2 y2 ar lv fl
  rw [sv_eq] at hs
  have hp := pcsR_eq (strikeRow ln w.b.x1 w.b.y1 w.b.x2 w.b.y2 w.acc x1 y1 x2 y2 ar lv fl)
    (tripRun.sl.H6_20 w.b.x1 w.b.y1 w.b.x2 w.b.y2 w.acc x1 y1 x2 y2 ar lv) (struck2 w x1 y1 x2 y2 ar lv)
    (by rw [trip_sup1]; exact canon_pcs_all _ _) 20 (Nat.le_refl 20)
  rw [trip_raw, hp, writes_pcs]
  unfold search
  rw [hs]
  rfl
end

end Cert.Proof

end
-- ==== Proof.Prologue.lean ====
module

public import proofs.«01_k».proof.Proof.Common

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

set_option maxHeartbeats 4000000 in
/-- The kernel's text before its loop, run once. -/
def preRun (c : Dev nD) (x1 y1 x2 y2 s : V2 F) :
    { W : V2 F × V2 F × IVec S160x128 32 × IVec S1x128 32 × Row F × Row F × Row F × Row F × Row F × Row F × Row F × Row F × Row F × Row F × Row F //
      ∀ (out : FVec F S300x128 .f32) (lv ar : V2 F) (fl : IVec S160x128 32) (E : Set ℕ) (bd : Option ℕ) (Q : PUnit → sProp 𝕄),
        iprop(pt c cc0_stg0_0 x1 ∗ pt c cc0_stg1_0 y1 ∗ pt c cc0_stg2_0 x2 ∗ pt c cc0_stg3_0 y2 ∗ pt c cc0_stg4_0 s
            ∗ pt c cc0_stg5_0 out ∗ pt c cc0_scratch0 lv ∗ pt c cc0_scratch1 ar ∗ pt c cc0_scratch2 fl
            ∗ (iprop(pt c cc0_stg0_0 x1 ∗ pt c cc0_stg1_0 y1 ∗ pt c cc0_stg2_0 x2 ∗ pt c cc0_stg3_0 y2 ∗ pt c cc0_stg4_0 s
                ∗ pt c cc0_stg5_0 out ∗ pt c cc0_scratch0 W.1 ∗ pt c cc0_scratch1 W.2.1 ∗ pt c cc0_scratch2 W.2.2.1) -∗
                wp frame (wpE (defs₀ (F := F)) Variants.nat (c : Thread nD τ) bd) E (Prog.op (.call (1 : (Λ₀ F).Label)
                 ⟨W.2.2.2.1, Memref.whole cc0_stg5_0, Memref.isWhole_whole _, Memref.whole cc0_stg2_0, Memref.isWhole_whole _, Memref.whole cc0_stg0_0, Memref.isWhole_whole _, Memref.whole cc0_stg3_0, Memref.isWhole_whole _, Memref.whole cc0_stg1_0, Memref.isWhole_whole _, Memref.whole cc0_scratch1, Memref.isWhole_whole _, Memref.whole cc0_scratch0, Memref.isWhole_whole _, Memref.whole cc0_scratch2, Memref.isWhole_whole _, 0#32, W.2.2.2.2.1, W.2.2.2.2.2.1, W.2.2.2.2.2.2.1, W.2.2.2.2.2.2.2.1, W.2.2.2.2.2.2.2.2.1, W.2.2.2.2.2.2.2.2.2.1, W.2.2.2.2.2.2.2.2.2.2.1, W.2.2.2.2.2.2.2.2.2.2.2.1, W.2.2.2.2.2.2.2.2.2.2.2.2.1, W.2.2.2.2.2.2.2.2.2.2.2.2.2.1, W.2.2.2.2.2.2.2.2.2.2.2.2.2.2⟩) fun _ => Prog.ret ⟨⟩) Q))
        ⊢ wp frame (wpE (defs₀ (F := F)) Variants.nat (c : Thread nD τ) bd) E
            (cc0__nms_kernel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _)) Q } := by
  refine ⟨⟨?_, ?_, ?_, ?_, ?_, ?_, ?_, ?_, ?_, ?_, ?_, ?_, ?_, ?_, ?_⟩, fun out lv ar fl E bd Q => ?run⟩
  case run =>
    iintro ⟨H0, H1, H2, H3, H4, H5, H6, H7, H8, Hk⟩
    sl_exec_parts!
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Proof

end
-- ==== Proof.PreEq.lean ====
module

public import proofs.«01_k».proof.Proof.Pieces
public import proofs.«01_k».proof.Proof.TripEq
public import proofs.«01_k».proof.Proof.Prologue
public import Idealize.ShloMosaic.Lib.Pipeline.ReadBack
public import Idealize.ShloMosaic.Lib.Pipeline.Value

@[expose] public section

noncomputable section

namespace Cert.Proof

open Cert.KernelIdeal Cert.KernelIdeal.Gen

open Idealize.ShloMosaic

variable {F : FTy → Type} [FloatOps F]

/-- The areas of all boxes, their numbers, and the scores with those under the threshold set to zero. -/
def areaP (x1 y1 x2 y2 : V2 F) : V2 F := mulf (subf x2 x1) (subf y2 y1)
def floorP (s : V2 F) : V2 F :=
  select (cmpf .oge s (broadcast S160x128 (Scalar.ofBits .f32 0x3E800000#32 : F .f32))) s
    (broadcast S160x128 (Scalar.ofBits .f32 0x00000000#32 : F .f32))
def flatP : IVec S160x128 32 := k0_pay3
def lane : IVec S1x128 32 := iota Kind.tc S1x128 32 [1] iota_S1x128_d1_w32

section
variable (x1 y1 x2 y2 s : V2 F)

/-- The groups as the search reads them back. -/
def sv0 (k : Fin 20) : C8 F :=
  (Memref.whole cc0_scratch0).view.readCov (preRun.sl.H6_1 s) (rect k).toLoadRect
def ar0 (k : Fin 20) : C8 F :=
  (Memref.whole cc0_scratch1).view.readCov (preRun.sl.H7_1 x1 y1 x2 y2) (rect k).toLoadRect
def fl0 (k : Fin 20) : I8 :=
  (Memref.whole cc0_scratch2).view.readCov (preRun.sl.H8_1 (F := F)) (rect k).toLoadRect

theorem pre_cm : preRun.sl.r_1 s = colmaxS (sv0 s) := rfl
theorem pre_ci : preRun.sl.r_9 s = colidxS (sv0 s) (fl0 (F := F)) (preRun.sl.r_1 s) := rfl
theorem pre_cm2 : preRun.sl.r_17 s = colmax2S (sv0 s) (fl0 (F := F)) (preRun.sl.r_9 s) := rfl
theorem pre_ci2 : preRun.sl.r_25 s = colidx2S (sv0 s) (fl0 (F := F)) (preRun.sl.r_9 s) (preRun.sl.r_17 s) := rfl
theorem pre_x11 : preRun.sl.r_230 x1 s = coordS (rd x1) (fl0 (F := F)) (preRun.sl.r_9 s) := rfl
theorem pre_y11 : preRun.sl.r_231 y1 s = coordS (rd y1) (fl0 (F := F)) (preRun.sl.r_9 s) := rfl
theorem pre_x21 : preRun.sl.r_232 x2 s = coordS (rd x2) (fl0 (F := F)) (preRun.sl.r_9 s) := rfl
theorem pre_y21 : preRun.sl.r_233 y2 s = coordS (rd y2) (fl0 (F := F)) (preRun.sl.r_9 s) := rfl
theorem pre_x12 : preRun.sl.r_234 x1 s = coordS (rd x1) (fl0 (F := F)) (preRun.sl.r_25 s) := rfl
theorem pre_y12 : preRun.sl.r_235 y1 s = coordS (rd y1) (fl0 (F := F)) (preRun.sl.r_25 s) := rfl

/-- Each lane's two best, as the run names them. -/
theorem pre_lanes : lanes (rd x1) (rd y1) (rd x2) (rd y2) (sv0 s) (fl0 (F := F))
    = ⟨row0 (preRun.sl.r_1 s), row0 (preRun.sl.r_17 s),
      preRun.sl.r_230 x1 s, preRun.sl.r_231 y1 s, preRun.sl.r_232 x2 s, preRun.sl.r_233 y2 s,
      preRun.sl.r_234 x1 s, preRun.sl.r_235 y1 s, coordS (rd x2) (fl0 (F := F)) (preRun.sl.r_25 s),
      coordS (rd y2) (fl0 (F := F)) (preRun.sl.r_25 s)⟩ := by
  unfold lanes
  rw [pre_x11, pre_y11, pre_x21, pre_y21, pre_x12, pre_y12, pre_ci2, pre_cm2, pre_ci, pre_cm]

/-- The first search, as the run names what it returns. -/
theorem pre_found : choose lane (lanes (rd x1) (rd y1) (rd x2) (rd y2) (sv0 s) (fl0 (F := F)))
    = ⟨⟨preRun.sl.r_243 s, preRun.sl.r_244 x1 s, preRun.sl.r_245 y1 s, preRun.sl.r_247 x2 s, preRun.sl.r_248 y2 s⟩,
      ⟨preRun.sl.r_252 s, preRun.sl.r_253 x1 s, preRun.sl.r_254 y1 s, preRun.sl.r_255 x2 s, preRun.sl.r_256 y2 s⟩,
      preRun.sl.r_257 x1 y1 x2 y2 s⟩ := by
  rw [pre_lanes]
  rfl

/-- A group as the first pick strikes it. -/
def strikeRow0 (k : Fin 20) (g : C8 F) : C8 F :=
  suppC (preRun.sl.r_244 x1 s) (preRun.sl.r_245 y1 s) (preRun.sl.r_247 x2 s) (preRun.sl.r_248 y2 s)
    (areaOf ⟨preRun.sl.r_243 s, preRun.sl.r_244 x1 s, preRun.sl.r_245 y1 s, preRun.sl.r_247 x2 s, preRun.sl.r_248 y2 s⟩)
    (rd x1 k) (rd y1 k) (rd x2 k) (rd y2 k) (ar0 x1 y1 x2 y2 k) g

theorem pre_sup : preRun.sl.H6_21 x1 y1 x2 y2 s = pcsR (strikeRow0 x1 y1 x2 y2 s) (preRun.sl.H6_1 s) 20 (Nat.le_refl 20) := rfl

/-- What the text before the loop leaves, as the run names it. -/
theorem pre_raw (c : Dev nD) : (preRun c x1 y1 x2 y2 s).1
    = ((Memref.whole cc0_scratch0).view.writes (Elt F) (Memref.whole cc0_scratch0).view.junk
          (pcsR (strikeRow0 x1 y1 x2 y2 s) (preRun.sl.H6_1 s) 20 (Nat.le_refl 20)),
        (Memref.whole cc0_scratch1).view.writes (Elt F) (Memref.whole cc0_scratch1).view.junk (preRun.sl.H7_1 x1 y1 x2 y2),
        (Memref.whole cc0_scratch2).view.writes (Elt F) (Memref.whole cc0_scratch2).view.junk (preRun.sl.H8_1 (F := F)),
        lane,
        preRun.sl.r_243 s, preRun.sl.r_244 x1 s, preRun.sl.r_245 y1 s, preRun.sl.r_247 x2 s, preRun.sl.r_248 y2 s,
        preRun.sl.r_252 s, preRun.sl.r_253 x1 s, preRun.sl.r_254 y1 s, preRun.sl.r_255 x2 s, preRun.sl.r_256 y2 s,
        preRun.sl.r_257 x1 y1 x2 y2 s) := rfl

theorem idx_full (off : Fin 2 → ℕ) (inb) (h : ∀ a, off a = 0) (x : S160x128.Idx) :
    (Rect.unit (s := S160x128) off S160x128.size inb).idx x = x := by
  funext a
  exact Fin.ext (by show off a + 1 * (x a).val = (x a).val; rw [h a]; omega)

theorem off00 : ∀ a : Fin 2, ![0, 0] a = 0 := by decide

theorem readAt_all (b : Ref sig .tc) (f : b.ty.Contents (Elt F)) (off : Fin b.ty.shape.rank → ℕ) (h : ∀ a, off a = 0)
    (inb : ∀ a, off a + b.ty.shape.size a ≤ b.ty.shape.size a) :
    (Memref.whole b).view.readAt (Elt F) (Rect.unit off b.ty.shape.size inb).toLoadRect f = f :=
  Memref.readAt_unit_zero (Elt F) b (funext h) inb f

theorem pay4_eq : k0_pay4 s = floorP s := by
  unfold k0_pay4 floorP
  simp only [shapeCast_self]
theorem pay2_eq : k0_pay2 x1 y1 x2 y2 = areaP x1 y1 x2 y2 := by
  unfold k0_pay2 areaP
  simp only [shapeCast_self]

theorem h6_eq : ∃ inb, preRun.sl.H6_1 s = [⟨Rect.unit (s := S160x128) ![0, 0] S160x128.size inb, floorP s⟩] := by
  refine ⟨inb_S160x128_S160x128_0_0, ?_⟩
  unfold preRun.sl.H6_1
  erw [readAt_all cc0_stg4_0 s ![0, 0] off00 inb_S160x128_S160x128_0_0, pay4_eq]
theorem h7_eq : ∃ inb, preRun.sl.H7_1 x1 y1 x2 y2 = [⟨Rect.unit (s := S160x128) ![0, 0] S160x128.size inb, areaP x1 y1 x2 y2⟩] := by
  refine ⟨inb_S160x128_S160x128_0_0, ?_⟩
  unfold preRun.sl.H7_1
  erw [readAt_all cc0_stg0_0 x1 ![0, 0] off00 inb_S160x128_S160x128_0_0,
    readAt_all cc0_stg1_0 y1 ![0, 0] off00 inb_S160x128_S160x128_0_0,
    readAt_all cc0_stg2_0 x2 ![0, 0] off00 inb_S160x128_S160x128_0_0,
    readAt_all cc0_stg3_0 y2 ![0, 0] off00 inb_S160x128_S160x128_0_0, pay2_eq]
theorem h8_eq : ∃ inb, preRun.sl.H8_1 (F := F) = [⟨Rect.unit (s := S160x128) ![0, 0] S160x128.size inb, flatP⟩] :=
  ⟨inb_S160x128_S160x128_0_0, rfl⟩

theorem canon_full {e : EltTy} (inb) (Z : S160x128.Idx → Elt F e) :
    View.canon [(⟨Rect.unit (s := S160x128) ![0, 0] S160x128.size inb, Z⟩ : View.Piece (Elt F) S160x128 e)] = Z := by
  funext i
  have := View.canon_cons_emb (Rect.unit (s := S160x128) ![0, 0] S160x128.size inb) Z [] i
  rwa [show (Rect.unit (s := S160x128) ![0, 0] S160x128.size inb).emb i = i from idx_full _ inb off00 i] at this

theorem canon_h6 : View.canon (preRun.sl.H6_1 s) = floorP s := by
  obtain ⟨inb, h⟩ := h6_eq s
  rw [h, canon_full]
theorem canon_h7 : View.canon (preRun.sl.H7_1 x1 y1 x2 y2) = areaP x1 y1 x2 y2 := by
  obtain ⟨inb, h⟩ := h7_eq x1 y1 x2 y2
  rw [h, canon_full]
theorem canon_h8 : View.canon (preRun.sl.H8_1 (F := F)) = flatP := by
  obtain ⟨inb, h⟩ := h8_eq (F := F)
  rw [h, canon_full]

theorem sv0_eq : sv0 s = rd (floorP s) := funext fun k => readCov_canon _ _ (canon_h6 s) k
theorem ar0_eq : ar0 x1 y1 x2 y2 = rd (areaP x1 y1 x2 y2) := by
  funext k
  unfold ar0
  rw [View.readCov_eq_canon', canon_h7]
  rfl
theorem fl0_eq : fl0 (F := F) = rdI F flatP := by
  funext k
  unfold fl0
  rw [View.readCov_eq_canon', canon_h8]
  rfl

theorem writes_h7 : (Memref.whole cc0_scratch1).view.writes (Elt F) (Memref.whole cc0_scratch1).view.junk (preRun.sl.H7_1 x1 y1 x2 y2)
    = areaP x1 y1 x2 y2 :=
  (View.read_whole cc0_scratch1 _).symm.trans ((View.read_writes_junk_eq_canon (Memref.whole cc0_scratch1).view _).trans (canon_h7 x1 y1 x2 y2))
theorem writes_h8 : (Memref.whole cc0_scratch2).view.writes (Elt F) (Memref.whole cc0_scratch2).view.junk (preRun.sl.H8_1 (F := F))
    = flatP :=
  (View.read_whole cc0_scratch2 _).symm.trans ((View.read_writes_junk_eq_canon (Memref.whole cc0_scratch2).view _).trans canon_h8)

/-- The first search. -/
def found0 : Found F := search lane x1 y1 x2 y2 flatP (floorP s)

/-- What the text before the loop leaves. -/
theorem pre_eq (c : Dev nD) : (preRun c x1 y1 x2 y2 s).1
    = (struck1 (found0 x1 y1 x2 y2 s) x1 y1 x2 y2 (areaP x1 y1 x2 y2) (floorP s), areaP x1 y1 x2 y2, flatP, lane,
        (found0 x1 y1 x2 y2 s).a.m, (found0 x1 y1 x2 y2 s).a.x1, (found0 x1 y1 x2 y2 s).a.y1,
        (found0 x1 y1 x2 y2 s).a.x2, (found0 x1 y1 x2 y2 s).a.y2,
        (found0 x1 y1 x2 y2 s).b.m, (found0 x1 y1 x2 y2 s).b.x1, (found0 x1 y1 x2 y2 s).b.y1,
        (found0 x1 y1 x2 y2 s).b.x2, (found0 x1 y1 x2 y2 s).b.y2, (found0 x1 y1 x2 y2 s).acc) := by
  have hs := pre_found x1 y1 x2 y2 s
  rw [sv0_eq, fl0_eq] at hs
  have hp := pcsR_eq (strikeRow0 x1 y1 x2 y2 s) (preRun.sl.H6_1 s) (floorP s) (canon_h6 s) 20 (Nat.le_refl 20)
  rw [pre_raw, hp, writes_pcs, writes_h7, writes_h8]
  unfold found0 search
  rw [hs]
  unfold strikeRow0
  rw [ar0_eq]
  rfl
end

end Cert.Proof

end
-- ==== Proof.Loop.lean ====
module

public import proofs.«01_k».proof.Proof.PreEq
public import proofs.«01_k».proof.Proof.TripEq

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-! ## The counter -/

theorem k_toNat (k : ℕ) (hk : k ≤ 301) : (BitVec.ofNat 32 k).toNat = k := by
  rw [BitVec.toNat_ofNat]; omega

theorem k_toInt (k : ℕ) (hk : k ≤ 301) : (BitVec.ofNat 32 k).toInt = k := by
  rw [BitVec.toInt_eq_toNat_of_lt (by rw [k_toNat k hk]; omega), k_toNat k hk]

theorem slt_iff (k n : ℕ) (hk : k ≤ 301) (hn : n ≤ 301) : Scalar.cmpi .slt (BitVec.ofNat 32 k) (BitVec.ofNat 32 n) = 1#1 ↔ k < n := by
  have : Scalar.cmpi .slt (BitVec.ofNat 32 k) (BitVec.ofNat 32 n) = BitVec.ofBool ((BitVec.ofNat 32 k).slt (BitVec.ofNat 32 n)) := rfl
  rw [this, BitVec.slt_eq_decide, k_toInt k hk, k_toInt n hn]
  by_cases h : k < n
  · simp [h]
  · simp [h]

theorem chk1_of (k : ℕ) (hk : k < 300) : k0_chk1 (BitVec.ofNat 32 k) := by
  intro a
  have h := k_toNat k (by omega)
  fin_cases a
  · show (BitVec.ofNat 32 k).toNat + 1 ≤ 300
    omega
  · show 0 + 128 ≤ 128; omega

theorem add_one (k : ℕ) (hk : k ≤ 300) : Scalar.addi (BitVec.ofNat 32 k) 1#32 = BitVec.ofNat 32 (k + 1) :=
  (BitVec.ofNat_add k 1).symm

theorem cond1_iff (k : ℕ) (hk : k ≤ 301) (b : BitVec 1) : k0_cond1 (BitVec.ofNat 32 k) b = 1#1 ↔ b = 1#1 ∧ k < 299 := by
  have h := slt_iff k 299 hk (by omega)
  rw [← h]
  show Scalar.cmpi .ne (Scalar.extui (Scalar.andi b (Scalar.cmpi .slt (BitVec.ofNat 32 k) (BitVec.ofNat 32 299))) : BitVec 32) 0#32 = 1#1 ↔ _
  generalize Scalar.cmpi .slt (BitVec.ofNat 32 k) (BitVec.ofNat 32 299) = t
  revert b t
  decide

theorem chk2_of (k : ℕ) (hk : k < 300) (b : BitVec 1) : k0_chk2 (BitVec.ofNat 32 k) b := by
  intro hc a
  have h2 := ((cond1_iff k (by omega) b).mp hc).2
  have h := k_toNat (k + 1) (by omega)
  have e : k0_off2 (BitVec.ofNat 32 k) = ![(BitVec.ofNat 32 (k + 1)).toNat, 0] := by
    rw [← add_one k (by omega)]; rfl
  rw [e, h]
  fin_cases a
  · show k + 1 + 1 ≤ 300
    omega
  · show 0 + 128 ≤ 128; omega

/-! ## The loop -/

section
variable (x1 y1 x2 y2 ar : V2 F) (fl : IVec S160x128 32) (ln : IVec S1x128 32)

/-- The output and the scores after at most `n` trips from count `k`. -/
def loop : ℕ → ℕ → Found F → V2 F → FVec F S300x128 .f32 → FVec F S300x128 .f32 × V2 F
  | 0, _, _, lv, out => (out, lv)
  | n + 1, k, w, lv, out =>
    if hk : k < 300 then
      loop n (k + 1 + (keepBit w.acc).toNat) (search ln x1 y1 x2 y2 fl (struck2 w x1 y1 x2 y2 ar lv))
        (struck1 (search ln x1 y1 x2 y2 fl (struck2 w x1 y1 x2 y2 ar lv)) x1 y1 x2 y2 ar (struck2 w x1 y1 x2 y2 ar lv))
        (stepOut ln (BitVec.ofNat 32 k) (chk1_of k hk) (chk2_of k hk) w out)
    else (out, lv)

/-- The buffers the loop runs over. -/
def held (c : Dev nD) (lv : V2 F) (out : FVec F S300x128 .f32) : sProp 𝕄 :=
  iprop(pt c cc0_stg0_0 x1 ∗ pt c cc0_stg1_0 y1 ∗ pt c cc0_stg2_0 x2 ∗ pt c cc0_stg3_0 y2 ∗ pt c cc0_stg5_0 out
    ∗ pt c cc0_scratch0 lv ∗ pt c cc0_scratch1 ar ∗ pt c cc0_scratch2 fl)

/-- The loop's label: from a state, the state the loop leaves. -/
def spec (c : Dev nD) (n k : ℕ) (w : Found F) (lv : V2 F) (out : FVec F S300x128 .f32) : sWPT 𝕄 (BitVec 32 × Row F × Row F × Row F × Row F × Row F × Row F × Row F × Row F × Row F × Row F × Row F) := do
  sWPT.consume (held x1 y1 x2 y2 ar fl c lv out)
  let r ← sWPT.arbitrary
  sWPT.produce (held x1 y1 x2 y2 ar fl c (loop x1 y1 x2 y2 ar fl ln n k w lv out).2 (loop x1 y1 x2 y2 ar fl ln n k w lv out).1)
  pure r

theorem spec_apply (c : Dev nD) (n k : ℕ) (w : Found F) (lv : V2 F) (out : FVec F S300x128 .f32)
    (K : (BitVec 32 × Row F × Row F × Row F × Row F × Row F × Row F × Row F × Row F × Row F × Row F × Row F) → sProp 𝕄) :
    spec x1 y1 x2 y2 ar fl ln c n k w lv out K
      = iprop(held x1 y1 x2 y2 ar fl c lv out ∗ ∀ r, (held x1 y1 x2 y2 ar fl c (loop x1 y1 x2 y2 ar fl ln n k w lv out).2
          (loop x1 y1 x2 y2 ar fl ln n k w lv out).1 -∗ K r)) := rfl

/-- The label's argument at a state. -/
abbrev loopArgs (k : BitVec 32) (w : Found F) : Cc0While1 F :=
  ⟨ln, Memref.whole cc0_stg5_0, Memref.isWhole_whole _, Memref.whole cc0_stg2_0, Memref.isWhole_whole _, Memref.whole cc0_stg0_0, Memref.isWhole_whole _, Memref.whole cc0_stg3_0, Memref.isWhole_whole _, Memref.whole cc0_stg1_0, Memref.isWhole_whole _, Memref.whole cc0_scratch1, Memref.isWhole_whole _, Memref.whole cc0_scratch0, Memref.isWhole_whole _, Memref.whole cc0_scratch2, Memref.isWhole_whole _, k, w.a.m, w.a.x1, w.a.y1, w.a.x2, w.a.y2, w.b.m, w.b.x1, w.b.y1, w.b.x2, w.b.y2, w.acc⟩

/-- The label's body at a state. -/
abbrev loopBody (k : BitVec 32) (w : Found F) :=
  cc0_while1 ln (Memref.whole cc0_stg5_0) (Memref.isWhole_whole _) (Memref.whole cc0_stg2_0) (Memref.isWhole_whole _) (Memref.whole cc0_stg0_0) (Memref.isWhole_whole _) (Memref.whole cc0_stg3_0) (Memref.isWhole_whole _) (Memref.whole cc0_stg1_0) (Memref.isWhole_whole _) (Memref.whole cc0_scratch1) (Memref.isWhole_whole _) (Memref.whole cc0_scratch0) (Memref.isWhole_whole _) (Memref.whole cc0_scratch2) (Memref.isWhole_whole _) k w.a.m w.a.x1 w.a.y1 w.a.x2 w.a.y2 w.b.m w.b.x1 w.b.y1 w.b.x2 w.b.y2 w.acc

theorem exit_le (c : Dev nD) (E : Set ℕ) (bd : Option ℕ) (k : ℕ) (hk : ¬ k < 300) (hk' : k ≤ 301) (w : Found F) (lv : V2 F) (out : FVec F S300x128 .f32)
    (K : (BitVec 32 × Row F × Row F × Row F × Row F × Row F × Row F × Row F × Row F × Row F × Row F × Row F) → sProp 𝕄) :
    iprop(held x1 y1 x2 y2 ar fl c lv out ∗ ∀ r, (held x1 y1 x2 y2 ar fl c lv out -∗ K r))
      ⊢ wp frame (wpE (defs₀ (F := F)) Variants.nat (c : Thread nD τ) bd) E (loopBody ln (BitVec.ofNat 32 k) w) K := by
  rw [loopBody, cc0_while1_eq_skeleton]; unfold cc0_while1_skel
  have htest : ¬ Scalar.cmpi .slt (BitVec.ofNat 32 k) 300#32 = 1#1 := fun h => hk ((slt_iff k 300 hk' (by omega)).mp h)
  simp only [htest, ↓reduceIte, Prog.pure_eq_ret]
  iintro ⟨H, Hk⟩
  rw [wp_ret]; imodintro
  iapply Hk
  iexact H

theorem keepBit_le (acc : Row F) : (keepBit acc).toNat ≤ 1 := by
  have := (keepBit acc).isLt; omega

theorem next_k (k : ℕ) (b : BitVec 1) : Scalar.addi (Scalar.addi (BitVec.ofNat 32 k) 1#32) (Scalar.extui b)
    = BitVec.ofNat 32 (k + 1 + b.toNat) := by
  rw [BitVec.ofNat_add, BitVec.ofNat_add]
  congr 1
  revert b
  decide

theorem spec_le (c : Dev nD) (E : Set ℕ) : ∀ (n k : ℕ), k ≤ 301 → 300 ≤ k + n → ∀ (w : Found F) (lv : V2 F) (out : FVec F S300x128 .f32)
    (K : (BitVec 32 × Row F × Row F × Row F × Row F × Row F × Row F × Row F × Row F × Row F × Row F × Row F) → sProp 𝕄),
    spec x1 y1 x2 y2 ar fl ln c n k w lv out K
      ⊢ wp frame (wpE (defs₀ (F := F)) Variants.nat (c : Thread nD τ) (some n)) E
          (defs₀ (F := F) .tc 1 (loopArgs ln (BitVec.ofNat 32 k) w)) K := by
  intro n
  induction n with
  | zero =>
    intro k hk hn w lv out K
    rw [spec_apply]
    exact exit_le x1 y1 x2 y2 ar fl ln c E (some 0) k (by omega) hk w lv out K
  | succ n ih =>
    intro k hk hn w lv out K
    rw [spec_apply]
    by_cases hlt : k < 300
    · have htest : Scalar.cmpi .slt (BitVec.ofNat 32 k) 300#32 = 1#1 := (slt_iff k 300 hk (by omega)).mpr hlt
      refine BIBase.Entails.trans ?_ ((tripRun c ln (BitVec.ofNat 32 k) htest (chk1_of k hlt) (chk2_of k hlt)
        w.a.m w.a.x1 w.a.y1 w.a.x2 w.a.y2 w.b.m w.b.x1 w.b.y1 w.b.x2 w.b.y2 w.acc x1 y1 x2 y2 ar lv fl out).2 E (some (n + 1)) K)
      rw [trip_eq, next_k]
      unfold held
      iintro ⟨⟨H0, H1, H2, H3, H5, H6, H7, H8⟩, Hk⟩
      isplitl [H0]; · iexact H0
      isplitl [H1]; · iexact H1
      isplitl [H2]; · iexact H2
      isplitl [H3]; · iexact H3
      isplitl [H5]; · iexact H5
      isplitl [H6]; · iexact H6
      isplitl [H7]; · iexact H7
      isplitl [H8]; · iexact H8
      iintro ⟨H0, H1, H2, H3, H5, H6, H7, H8⟩
      have hkb := keepBit_le w.acc
      iapply (wp_call_spec Variants.nat (c : Thread nD τ) (some (n + 1)) E
        (spec x1 y1 x2 y2 ar fl ln c n (k + 1 + (keepBit w.acc).toNat) (search ln x1 y1 x2 y2 fl (struck2 w x1 y1 x2 y2 ar lv))
          (struck1 (search ln x1 y1 x2 y2 fl (struck2 w x1 y1 x2 y2 ar lv)) x1 y1 x2 y2 ar (struck2 w x1 y1 x2 y2 ar lv))
          (stepOut ln (BitVec.ofNat 32 k) (chk1_of k hlt) (chk2_of k hlt) w out)) n
        (fun u hu => by cases hu; exact Nat.lt_succ_self n)
        (ih (k + 1 + (keepBit w.acc).toNat) (by omega) (by omega) _ _ _))
      rw [spec_apply]
      isplitl [H0 H1 H2 H3 H5 H6 H7 H8]
      · unfold held
        isplitl [H0]; · iexact H0
        isplitl [H1]; · iexact H1
        isplitl [H2]; · iexact H2
        isplitl [H3]; · iexact H3
        isplitl [H5]; · iexact H5
        isplitl [H6]; · iexact H6
        isplitl [H7]; · iexact H7
        iexact H8
      iintro %r H
      rw [wp_ret]; imodintro
      rw [show loop x1 y1 x2 y2 ar fl ln (n + 1) k w lv out = loop x1 y1 x2 y2 ar fl ln n (k + 1 + (keepBit w.acc).toNat) (search ln x1 y1 x2 y2 fl (struck2 w x1 y1 x2 y2 ar lv))
          (struck1 (search ln x1 y1 x2 y2 fl (struck2 w x1 y1 x2 y2 ar lv)) x1 y1 x2 y2 ar (struck2 w x1 y1 x2 y2 ar lv))
          (stepOut ln (BitVec.ofNat 32 k) (chk1_of k hlt) (chk2_of k hlt) w out) from by rw [loop, dif_pos hlt]]
      iapply Hk
      unfold held
      iexact H
    · rw [show loop x1 y1 x2 y2 ar fl ln (n + 1) k w lv out = (out, lv) from by rw [loop, dif_neg hlt]]
      exact exit_le x1 y1 x2 y2 ar fl ln c E (some (n + 1)) k hlt hk w lv out K
end

end Cert.Proof

end
-- ==== Proof.Out.lean ====
module

public import proofs.«01_k».proof.Proof.Loop
public import Idealize.ShloMosaic.Lib.WritesUnit

@[expose] public section

noncomputable section

namespace Cert.Proof

open Cert.KernelIdeal Cert.KernelIdeal.Gen

open Idealize.ShloMosaic
open Idealize.ShloMosaic.TcCoe
open Idealize.SL

variable {F : FTy → Type} [FloatOps F]

/-- The lane `l` of a row. -/
def lix (l : Fin 128) : S1x128.Idx := fun a => match a with | 0 => (0 : Fin 1) | 1 => l

/-- Row 0 of a row vector, for the row of an output index. -/
abbrev outLane (i : S300x128.Idx) : Fin 128 := i 1

theorem off1_eq (k : ℕ) (hk : k < 300) : k0_off1 (BitVec.ofNat 32 k) = ![k, 0] := by
  have h := k_toNat k (by omega)
  show ![(BitVec.ofNat 32 k).toNat, 0] = ![k, 0]
  rw [h]

theorem off2_eq (k : ℕ) (hk : k < 300) : k0_off2 (BitVec.ofNat 32 k) = ![k + 1, 0] := by
  have e : k0_off2 (BitVec.ofNat 32 k) = ![(BitVec.ofNat 32 (k + 1)).toNat, 0] := by
    rw [← add_one k (by omega)]; rfl
  rw [e, k_toNat (k + 1) (by omega)]

/-- One row stored, read back through any view of the output's shape. -/
theorem rowWrite_read {sp : Space} (v : View sig .tc sp S300x128 .f32) (f : v.ty.Contents (Elt F)) (L : List (View.Piece (Elt F) S300x128 .f32))
    (off : Fin 2 → ℕ) (k : ℕ) (inb : ∀ a : Fin 2, off a + S1x128.size a ≤ S300x128.size a) (h : off = ![k, 0]) (r : Row F) (i : S300x128.Idx) :
    v.read (Elt F) (v.writes (Elt F) f ((⟨Rect.unit (s := S300x128) off S1x128.size inb, r⟩ : View.Piece (Elt F) S300x128 .f32) :: L)) i
      = if (i 0).val = k then r (lix (outLane i)) else v.read (Elt F) (v.writes (Elt F) f L) i := by
  by_cases hk : (i 0).val = k
  · rw [if_pos hk]
    refine View.read_writes_cons_unit_of_mem (s := S300x128) v f inb r L i (lix (outLane i)) h ?_
    intro a
    match a with
    | 0 => show (i 0).val = k + 0; omega
    | 1 => show (i 1).val = 0 + (i 1).val; omega
  · rw [if_neg hk]
    refine View.read_writes_cons_unit_of_not_mem (s := S300x128) v f inb r L i h (0 : Fin 2) ?_
    show (i 0).val < k ∨ k + 1 ≤ (i 0).val
    omega

/-- One row stored over the output, read back. -/
theorem rowWrite (f : FVec F S300x128 .f32) (L : List (View.Piece (Elt F) S300x128 .f32)) (off : Fin 2 → ℕ) (k : ℕ)
    (inb : ∀ a : Fin 2, off a + S1x128.size a ≤ S300x128.size a) (h : off = ![k, 0]) (r : Row F) (i : S300x128.Idx) :
    (Memref.whole cc0_stg5_0).view.writes (Elt F) f ((⟨Rect.unit (s := S300x128) off S1x128.size inb, r⟩ : View.Piece (Elt F) S300x128 .f32) :: L) i
      = if (i 0).val = k then r (lix (outLane i)) else (Memref.whole cc0_stg5_0).view.writes (Elt F) f L i :=
  rowWrite_read (Memref.whole cc0_stg5_0).view f L off k inb h r i

/-- The output after a trip, element by element. -/
theorem stepOut_apply (ln : IVec S1x128 32) (k : ℕ) (hk : k < 300) (w : Found F) (out : FVec F S300x128 .f32) (i : S300x128.Idx) :
    stepOut ln (BitVec.ofNat 32 k) (chk1_of k hk) (chk2_of k hk) w out i
      = if keepBit w.acc = 1#1 ∧ k < 299 ∧ (i 0).val = k + 1 then entryRow ln w.b (lix (outLane i))
        else if (i 0).val = k then entryRow ln w.a (lix (outLane i)) else out i := by
  unfold stepOut
  by_cases h : k0_cond1 (BitVec.ofNat 32 k) (keepBit w.acc) = 1#1
  · obtain ⟨hb, hk'⟩ := (cond1_iff k (by omega) _).mp h
    rw [dif_pos h, rowWrite out _ _ (k + 1) _ (off2_eq k hk), rowWrite out _ _ k _ (off1_eq k hk)]
    simp only [hb, hk', true_and]
    rfl
  · rw [dif_neg h, rowWrite out _ _ k _ (off1_eq k hk)]
    have hn : ¬ (keepBit w.acc = 1#1 ∧ k < 299 ∧ (i 0).val = k + 1) := fun h' => h ((cond1_iff k (by omega) _).mpr ⟨h'.1, h'.2.1⟩)
    simp only [hn, if_false]
    rfl

section
variable (x1 y1 x2 y2 ar : V2 F) (fl : IVec S160x128 32) (ln : IVec S1x128 32)

/-- The loop's output does not depend on the rows it has not yet reached. -/
theorem loop_det : ∀ (n k : ℕ), 300 ≤ k + n → ∀ (w : Found F) (lv : V2 F) (out out' : FVec F S300x128 .f32),
    (∀ i : S300x128.Idx, (i 0).val < k → out i = out' i) →
    loop x1 y1 x2 y2 ar fl ln n k w lv out = loop x1 y1 x2 y2 ar fl ln n k w lv out' := by
  intro n
  induction n with
  | zero =>
    intro k hk w lv out out' h
    have : out = out' := funext fun i => h i (Nat.lt_of_lt_of_le (i 0).isLt hk)
    rw [this]
  | succ n ih =>
    intro k hk w lv out out' h
    by_cases hlt : k < 300
    · rw [loop, loop, dif_pos hlt, dif_pos hlt]
      apply ih
      · omega
      · intro i hi
        rw [stepOut_apply ln k hlt, stepOut_apply ln k hlt]
        have hkb := keepBit_le w.acc
        split
        · rfl
        · next hn =>
          split
          · rfl
          · next hne =>
            refine h i ?_
            by_contra hge
            have hi1 : (i 0).val = k + 1 := by omega
            have hb : keepBit w.acc = 1#1 := by
              apply BitVec.eq_of_toNat_eq
              show (keepBit w.acc).toNat = 1
              omega
            have : (i 0).val < 300 := (i 0).isLt
            exact hn ⟨hb, by omega, hi1⟩
    · have : out = out' := funext fun i => h i (by have : (i 0).val < 300 := (i 0).isLt; omega)
      rw [this]

end

end Cert.Proof

end
-- ==== Proof.Body.lean ====
module

public import proofs.«01_k».proof.Proof.Out

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR nD τ) ℕ

/-- The kernel's output as a function of the planes, over the contents `out`. -/
def nms (x1 y1 x2 y2 s : V2 F) (out : FVec F S300x128 .f32) : FVec F S300x128 .f32 :=
  (loop x1 y1 x2 y2 (areaP x1 y1 x2 y2) flatP lane 300 0 (found0 x1 y1 x2 y2 s)
    (struck1 (found0 x1 y1 x2 y2 s) x1 y1 x2 y2 (areaP x1 y1 x2 y2) (floorP s)) out).1

/-- It depends on no contents. -/
theorem nms_det (x1 y1 x2 y2 s : V2 F) (out out' : FVec F S300x128 .f32) : nms x1 y1 x2 y2 s out = nms x1 y1 x2 y2 s out' := by
  unfold nms
  rw [loop_det x1 y1 x2 y2 (areaP x1 y1 x2 y2) flatP lane 300 0 (by omega) _ _ out out' (fun i h => absurd h (Nat.not_lt_zero _))]

/-- Contents to begin from. -/
def blank : FVec F S300x128 .f32 := broadcast S300x128 (Scalar.ofBits .f32 0x00000000#32 : F .f32)

/-- An entailment continued by one whose right side equals the goal's. -/
theorem entails_to {P Q R R' : sProp 𝕄} (e : R' = R) (h : P ⊢ Q) (h' : Q ⊢ R') : P ⊢ R := e ▸ BIBase.Entails.trans h h'

/-- The kernel from its buffers: the planes kept, the output written. -/
theorem body_run (c : Dev nD) (x1 y1 x2 y2 s : V2 F) (out : FVec F S300x128 .f32) (lv ar : V2 F) (fl : IVec S160x128 32) (K : PUnit → sProp 𝕄) :
    iprop(pt c cc0_stg0_0 x1 ∗ pt c cc0_stg1_0 y1 ∗ pt c cc0_stg2_0 x2 ∗ pt c cc0_stg3_0 y2 ∗ pt c cc0_stg4_0 s
        ∗ pt c cc0_stg5_0 out ∗ pt c cc0_scratch0 lv ∗ pt c cc0_scratch1 ar ∗ pt c cc0_scratch2 fl
        ∗ ((∃ lv' ar' fl', pt c cc0_stg0_0 x1 ∗ pt c cc0_stg1_0 y1 ∗ pt c cc0_stg2_0 x2 ∗ pt c cc0_stg3_0 y2 ∗ pt c cc0_stg4_0 s
          ∗ pt c cc0_stg5_0 (nms x1 y1 x2 y2 s blank) ∗ pt c cc0_scratch0 lv' ∗ pt c cc0_scratch1 ar' ∗ pt c cc0_scratch2 fl') -∗ K ⟨⟩))
      ⊢ wp frame (wpE (defs₀ (F := F)) Variants.nat (c : Thread nD τ) none) Set.univ
          (cc0__nms_kernel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _)) K := by
  have key := (preRun c x1 y1 x2 y2 s).2 out lv ar fl Set.univ none K
  rw [pre_eq] at key
  refine entails_to ?_ ?_ key
  · clear key; congr 1
  iintro ⟨H0, H1, H2, H3, H4, H5, H6, H7, H8, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply (wp_call_spec Variants.nat (c : Thread nD τ) none Set.univ
    (spec x1 y1 x2 y2 (areaP x1 y1 x2 y2) flatP lane c 300 0 (found0 x1 y1 x2 y2 s)
      (struck1 (found0 x1 y1 x2 y2 s) x1 y1 x2 y2 (areaP x1 y1 x2 y2) (floorP s)) out) 300
    (fun u hu => nomatch hu)
    (spec_le x1 y1 x2 y2 (areaP x1 y1 x2 y2) flatP lane c Set.univ 300 0 (by omega) (by omega) _ _ _))
  rw [spec_apply]
  isplitl [H0 H1 H2 H3 H5 H6 H7 H8]
  · unfold held
    isplitl [H0]; · iexact H0
    isplitl [H1]; · iexact H1
    isplitl [H2]; · iexact H2
    isplitl [H3]; · iexact H3
    isplitl [H5]; · iexact H5
    isplitl [H6]; · iexact H6
    isplitl [H7]; · iexact H7
    iexact H8
  unfold held
  iintro %r ⟨H0, H1, H2, H3, H5, H6, H7, H8⟩
  rw [wp_ret]; imodintro
  iapply Hk
  rw [nms_det x1 y1 x2 y2 s blank out]
  unfold nms
  iexists _; iexists _; iexists _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Proof

end
-- ==== Proof.Run.lean ====
module

public import proofs.«01_k».proof.Proof.Body
public import proofs.«01_k».proof.Proof.Gen.KernelIdeal.Launch
public import proofs.«01_k».proof.Proof.Gen.KernelIdeal.Points
public import Idealize.ShloMosaic.Lib.Pipeline.FrameSuffix

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR nD τ) ℕ

/-- Owning a whole buffer is its points-to. -/
theorem owns_whole_eq (c : Dev nD) (b : Ref sig .tc) (X : b.ty.Contents (Elt F)) :
    (owns (Ix := Unit) (Name := ℕ) (U := UR nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

variable (m : (ℓ : Loc nD τ sig) → Buf (Elt F) ℓ) (ρ : Dev nD → PrngReg)

/-! ## The buffers when the kernel is entered -/

/-- The host's operations before the kernel, and after it. -/
abbrev before : List (List (HloOp τ sig (Elt F))) := [hostOps0, hostOps0_1, hostOps0_2, hostOps0_3, hostOps0_4]
abbrev behind : List (List (HloOp τ sig (Elt F))) := [hostOps1]

/-- The buffers' contents when the kernel is entered. -/
abbrev V0 (c : Dev nD) : Valuation τ sig (Elt F) := StableHlo.after (List.flatten before) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 4000000 in
/-- The program around the kernel. -/
theorem hmain : Pipeline.HMainK (Ix := Unit) (Name := ℕ) (U := UR nD τ) (Lvl := ℕ) cfgs 0 defs₀ Variants.nat m (main (F := F)) (V m)
    (fun _ => Pipeline.chain (behind.map StableHlo.seq)) :=
  Pipeline.hmain_around cfgs 0 defs₀ Variants.nat m main before behind
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem behind_sub : ∀ ops ∈ (behind : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)

theorem behind_fresh : ∀ ops ∈ (behind : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem behind_keeps : ∀ ops ∈ (behind : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.unary_writes, Finset.mem_singleton] <;> exact StableHlo.devRef_ne_of_ne (by decide)

/-- An argument's buffer is written by no host operation. -/
theorem V_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The pipeline's data -/

/-- The planes as the kernel is handed them. -/
def px1 (c : Dev nD) : V2 F := (win0_0.blk t0_0).view.read (Elt F) (V m c (Pipeline.arrRef spec0 0))
def py1 (c : Dev nD) : V2 F := (win0_1.blk t0_0).view.read (Elt F) (V m c (Pipeline.arrRef spec0 1))
def px2 (c : Dev nD) : V2 F := (win0_2.blk t0_0).view.read (Elt F) (V m c (Pipeline.arrRef spec0 2))
def py2 (c : Dev nD) : V2 F := (win0_3.blk t0_0).view.read (Elt F) (V m c (Pipeline.arrRef spec0 3))
def psc (c : Dev nD) : V2 F := (win0_4.blk t0_0).view.read (Elt F) (V m c (Pipeline.arrRef spec0 4))

/-- The kernel's output. -/
def outs (c : Dev nD) : FVec F S300x128 .f32 := nms (px1 m c) (py1 m c) (px2 m c) (py2 m c) (psc m c) blank

/-- The pipeline's arrays and buffers, and what the kernel leaves in them. -/
def dats (_ : Fin 1) (c : Dev nD) : Dat τ (Elt F) Unit ℕ (UR nD τ) ℕ (cfg0 (F := F)) c where
  A w := V m c (Pipeline.arrRef spec0 w)
  after w _ := match w with
    | ⟨0, _⟩ => px1 m c
    | ⟨1, _⟩ => py1 m c
    | ⟨2, _⟩ => px2 m c
    | ⟨3, _⟩ => py2 m c
    | ⟨4, _⟩ => psc m c
    | ⟨5, _⟩ => outs m c
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = px1 m c := by dsimp only [dats]; rfl
theorem after_1 (c : Dev nD) (t : Fin (cfg0 (F := F)).N) : (dats m 0 c).after 1 t = py1 m c := by dsimp only [dats]; rfl
theorem after_2 (c : Dev nD) (t : Fin (cfg0 (F := F)).N) : (dats m 0 c).after 2 t = px2 m c := by dsimp only [dats]; rfl
theorem after_3 (c : Dev nD) (t : Fin (cfg0 (F := F)).N) : (dats m 0 c).after 3 t = py2 m c := by dsimp only [dats]; rfl
theorem after_4 (c : Dev nD) (t : Fin (cfg0 (F := F)).N) : (dats m 0 c).after 4 t = psc m c := by dsimp only [dats]; rfl
theorem after_5 (c : Dev nD) (t : Fin (cfg0 (F := F)).N) : (dats m 0 c).after 5 t = outs m c := by dsimp only [dats]; rfl

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((dats m 0 c).Φ (t0_0 : Fin (cfg0 (F := F)).N).castSucc ∗ (dats m 0 c).owesAt () (t0_0 : Fin (cfg0 (F := F)).N).castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop((dats m 0 c).Φ (t0_0 : Fin (cfg0 (F := F)).N).succ ∗ (dats m 0 c).owesAt () (t0_0 : Fin (cfg0 (F := F)).N).succ
    ∗ stg c cc0_stg0_0 (px1 m c) ∗ stg c cc0_stg1_0 (py1 m c) ∗ stg c cc0_stg2_0 (px2 m c) ∗ stg c cc0_stg3_0 (py2 m c)
    ∗ stg c cc0_stg4_0 (psc m c) ∗ stg c cc0_stg5_0 (outs m c))

set_option maxHeartbeats 1000000 in
theorem sound_body (c : Dev nD) (K : PUnit → sProp 𝕄) :
    iprop(bodyPre m c ∗ (bodyPost m c -∗ K ⟨⟩))
      ⊢ wp frame (wpE (defs₀ (F := F)) Variants.nat (c : Thread nD τ) none) Set.univ
          (cc0__nms_kernel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _)) K := by
  unfold bodyPre bodyPost
  rw [show (dats m 0 c).Φ (t0_0 : Fin (cfg0 (F := F)).N).castSucc = Pipeline.ΦA spec0 c from rfl,
    show (dats m 0 c).Φ (t0_0 : Fin (cfg0 (F := F)).N).succ = Pipeline.ΦA spec0 c from rfl,
    show (dats m 0 c).owesAt () (t0_0 : Fin (cfg0 (F := F)).N).succ = (dats m 0 c).owesAt () (t0_0 : Fin (cfg0 (F := F)).N).castSucc from rfl]
  unfold Pipeline.ΦA
  rw [scopedRest0_eq]
  iintro ⟨⟨⟨⟨⟨%lv, H6⟩, ⟨%ar, H7⟩, ⟨%fl, H8⟩⟩, Hr⟩, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩, Hk⟩
  have e0 : f0 = px1 m c := h0.trans ((if_pos (fetch0_0 t0_0)).trans rfl)
  have e1 : f1 = py1 m c := h1.trans ((if_pos (fetch0_1 t0_0)).trans rfl)
  have e2 : f2 = px2 m c := h2.trans ((if_pos (fetch0_2 t0_0)).trans rfl)
  have e3 : f3 = py2 m c := h3.trans ((if_pos (fetch0_3 t0_0)).trans rfl)
  have e4 : f4 = psc m c := h4.trans ((if_pos (fetch0_4 t0_0)).trans rfl)
  subst e0 e1 e2 e3 e4
  iapply (body_run c (px1 m c) (py1 m c) (px2 m c) (py2 m c) (psc m c) f5 lv ar fl K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨%lv', %ar', %fl', H0, H1, H2, H3, H4, H5, H6, H7, H8⟩
  iapply Hk
  isplitl [H6 H7 H8 Hr]
  · isplitl [H6 H7 H8]
    · isplitl [H6]; · (iexists lv'; iexact H6)
      isplitl [H7]; · (iexists ar'; iexact H7)
      iexists fl'; iexact H8
    iexact Hr
  isplitl [Howes]; · iexact Howes
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; swap; · iexact H5
  ipureintro; rfl

theorem body_obligation (c : Dev nD) :
    BodyObligation (dats (F := F) m 0 c) (defs₀ (F := F)) Variants.nat () Set.univ := fun t => by
  rw [fin_N0 t]
  rw [bigSep_W0, bigSep_W0]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl]
  rw [after_0, after_1, after_2, after_3, after_4, after_5]
  refine entails_to ?_ ?_ (sound_body m c fun _ => bodyPost m c)
  · congr 1
  unfold bodyPre
  iintro H
  isplitl [H]; · iexact H
  iintro H; iexact H

theorem share_eq (c : Dev nD) (w : Fin (cfg0 (F := F)).W) : (dats m 0 c).share w = fullShare := by
  unfold Dat.share; split <;> rfl

/-! ## The run -/

/-- The program's result: the first five lanes of the kernel's output. -/
def result (c : Dev nD) : FVec F S300x5 .f32 :=
  extractStridedSlice S300x5 ![0, 0] (outs m c) slices_S300x128_S300x5_0_0

set_option backward.isDefEq.respectTransparency.types false in
set_option maxHeartbeats 4000000 in
theorem run_raw : θ_run defs (onTc (τ := τ) (main (F := F))) ⟨m, fun _ => 0, ρ⟩ (fun r =>
    Pipeline.FramePost cfgs (dats m) 0 (Pipeline.afterTail₀ cfgs (dats m) 0 (V0 m) behind) r ∧ r.2.sem = fun _ => 0) :=
  Pipeline.θ_run_frame_around cfgs (dats m) (0 : Fin 1) launch0 defs₀ Variants.nat m ρ main
    (hbody := fun c => (body_obligation m c).loose) (hshare := share_eq m)
    (howed := fun _ _ => rfl) (V₀ := V0 m) (opss := behind) (hsub := behind_sub) (hfresh := behind_fresh) (hkeep := behind_keeps)
    (hmain := hmain m) (hA := A_eq m) (hΦ := fun _ _ => rfl) (Q' := _) (hQ' := fun _ h => h)

/-! ## What the run leaves -/

/-- The output's one block is its whole array, so the array ends holding what the kernel left. -/
theorem arrAt_out (c : Dev nD) : (dats m 0 c).arrAt (5 : Fin 6) (cfg0 (F := F)).N = outs m c := by
  have hw : (((cfg0 (F := F)).win 5).blk t0_0).view.read (Elt F) ((dats m 0 c).arrAt (5 : Fin 6) (cfg0 (F := F)).N) = (dats m 0 c).flushed 5 t0_0 := by
    have e := ((dats m 0 c).arrAt_succ (5 : Fin 6) t0_0).trans (if_pos (flush0_5 t0_0))
    exact (congrArg (fun X => (((cfg0 (F := F)).win 5).blk t0_0).view.read (Elt F) X) e).trans (View.read_write_univ _ _)
  have hz' : (fun a => win0_5.index t0_0 a * main_v25.ty.shape.size a) = fun _ => 0 := funext fun a => by fin_cases a <;> decide +kernel
  refine ((Memref.read_access_unit_zero (Elt F) main_v25 hz' (fun a => by rw [congrFun hz' a]; simp) _).symm.trans hw).trans ?_
  show ((cfg0 (F := F)).win 5).cut _ ((dats m 0 c).after 5 t0_0) = _
  rw [after_5]
  exact funext fun _ => rfl

/-- The result is the slice of what the kernel's output array ends holding. -/
theorem final_v26 (c : Dev nD) : Pipeline.afterTail₀ cfgs (dats m) 0 (V0 m) behind c main_v26 = result m c := by
  unfold Pipeline.afterTail₀
  simp only [behind, hostOps1, List.flatten_cons, List.flatten_nil, List.append_nil, StableHlo.after_cons, StableHlo.after_nil]
  refine (StableHlo.unary_result _ _ _ _ _ _).trans ?_
  exact congrArg (fun X => extractStridedSlice S300x5 ![0, 0] X slices_S300x128_S300x5_0_0)
    ((Pipeline.withArrays_arr spec0 (launch0 (F := F)).win.arr_inj c (V0 m c) (fun w => (dats m 0 c).arrAt w (cfg0 (F := F)).N) 5).trans (arrAt_out m c))

theorem arr_ne_arg0 : ∀ w : Fin 6, Pipeline.arrRef spec0 w ≠ main_arg0 := by decide
theorem rest_v26 : main_v26 ∈ Pipeline.restRefs sig spec0 := by decide
theorem rest_arg0 : main_arg0 ∈ Pipeline.restRefs sig spec0 := by decide
theorem rest_arg1 : main_arg1 ∈ Pipeline.restRefs sig spec0 := by decide
theorem arr_ne_arg1 : ∀ w : Fin 6, Pipeline.arrRef spec0 w ≠ main_arg1 := by decide

/-- An argument is no array of the kernel's and no result of the operation after it. -/
theorem final_arg0 (c : Dev nD) : Pipeline.afterTail₀ cfgs (dats m) 0 (V0 m) behind c main_arg0 = m ((c : Thread nD τ).loc main_arg0) := by
  unfold Pipeline.afterTail₀
  refine (StableHlo.after_of_forall_not_mem (b := Proc.devRef .tc main_arg0) _ _ (List.forall_iff_forall_mem.mp (by
    simp only [behind, hostOps1, List.flatten_cons, List.flatten_nil, List.append_nil, List.Forall, StableHlo.unary_writes, Finset.mem_singleton]
    exact StableHlo.devRef_ne_of_ne (by decide)))).trans ?_
  exact (Pipeline.withArrays_of_ne _ c (V0 m c) _ main_arg0 arr_ne_arg0).trans (V_arg0 m c)
theorem final_arg1 (c : Dev nD) : Pipeline.afterTail₀ cfgs (dats m) 0 (V0 m) behind c main_arg1 = m ((c : Thread nD τ).loc main_arg1) := by
  unfold Pipeline.afterTail₀
  refine (StableHlo.after_of_forall_not_mem (b := Proc.devRef .tc main_arg1) _ _ (List.forall_iff_forall_mem.mp (by
    simp only [behind, hostOps1, List.flatten_cons, List.flatten_nil, List.append_nil, List.Forall, StableHlo.unary_writes, Finset.mem_singleton]
    exact StableHlo.devRef_ne_of_ne (by decide)))).trans ?_
  exact (Pipeline.withArrays_of_ne _ c (V0 m c) _ main_arg1 arr_ne_arg1).trans (V_arg1 m c)

/-- The program runs, ends with `result` and its arguments unchanged, and every semaphore at zero. -/
theorem run_main : θ_run defs (onTc (τ := τ) (main (F := F))) ⟨m, fun _ => 0, ρ⟩ (fun r =>
    (∀ c : Dev nD, r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c =>
    ⟨((h.1 c).2 main_v26 rest_v26).trans (final_v26 m c),
     ((h.1 c).2 main_arg0 rest_arg0).trans (final_arg0 m c),
     ((h.1 c).2 main_arg1 rest_arg1).trans (final_arg1 m c)⟩, h.2⟩) (run_raw m ρ)

end Cert.Proof

end
-- ==== Proof.Column.lean ====
module

public import proofs.«01_k».proof.Proof.Out
public import Idealize.ShloMosaic.Lib.KernelVsHost.SublaneAllReduce
public import Idealize.ShloMosaic.PureOps.Ideal.Laws

@[expose] public section

noncomputable section

namespace Cert.Proof

open Cert.KernelIdeal Cert.KernelIdeal.Gen

open Idealize.ShloMosaic
open Idealize.ShloMosaic.SublaneAllReduce (combine8)

/-! Reading a lane's reductions over its rows, at the ideal floats. -/

/-- An index of a group of rows, of a plane; a group's row in the plane. -/
abbrev gx (r : Fin 8) (c : Fin 128) : S8x128.Idx := ValueIdx.ix2 r c
abbrev pp (ρ : Fin 160) (c : Fin 128) : S160x128.Idx := ValueIdx.ix2 ρ c
def rw' (k : Fin 20) (r : Fin 8) : Fin 160 := ⟨8 * k.val + r.val, by omega⟩

theorem rw'_surj (ρ : Fin 160) : ∃ k r, ρ = rw' k r :=
  ⟨⟨ρ.val / 8, by omega⟩, ⟨ρ.val % 8, by omega⟩, Fin.ext (by show ρ.val = 8 * (ρ.val / 8) + ρ.val % 8; omega)⟩

theorem rw'_inj {k k' : Fin 20} {r r' : Fin 8} (h : rw' k r = rw' k' r') : k = k' ∧ r = r' := by
  have := congrArg Fin.val h
  simp only [rw'] at this
  exact ⟨Fin.ext (by omega), Fin.ext (by omega)⟩

theorem rd_apply {F : FTy → Type} [FloatOps F] (v : V2 F) (k : Fin 20) (r : Fin 8) (c : Fin 128) : rd v k (gx r c) = v (pp (rw' k r) c) := by
  refine congrArg v (funext fun a => ?_)
  match a with
  | 0 => exact Fin.ext (by show 8 * k.val + 1 * r.val = 8 * k.val + r.val; omega)
  | 1 => exact Fin.ext (by show 0 + 1 * c.val = c.val; omega)

theorem rdI_apply (F : FTy → Type) [FloatOps F] (v : IVec S160x128 32) (k : Fin 20) (r : Fin 8) (c : Fin 128) : rdI F v k (gx r c) = v (pp (rw' k r) c) := by
  refine congrArg v (funext fun a => ?_)
  match a with
  | 0 => exact Fin.ext (by show 8 * k.val + 1 * r.val = 8 * k.val + r.val; omega)
  | 1 => exact Fin.ext (by show 0 + 1 * c.val = c.val; omega)

/-! ## Folds -/

theorem fold_ind {N : ℕ} {α : Type} (f : Fin N → α → α) (a : α) (P : ℕ → α → Prop) (h0 : P 0 a)
    (hs : ∀ n (h : n < N) a, P n a → P (n + 1) (f ⟨n, h⟩ a)) : P N (fold f a) := by
  have : ∀ n (h : n ≤ N), P n (upto f a n h) := by
    intro n
    induction n with
    | zero => exact fun _ => h0
    | succ n ih => exact fun h => hs n h _ (ih _)
  exact this N (Nat.le_refl N)

/-- `op` element by element. -/
abbrev lift {α : Type} (o : α → α → α) (a b : S8x128.Idx → α) : S8x128.Idx → α := fun i => o (a i) (b i)

theorem slane_apply {α : Type} (o : α → α → α) [Std.Commutative o] [Std.Associative o] (x : S8x128.Idx → α) (r : Fin 8) (c : Fin 128) :
    slane (lift o) x (gx r c) = combine8 o fun k => x (gx k c) :=
  SublaneAllReduce.sublaneAllReduce_apply o rotates_S8x128_d0 x r c

/-- What a choosing operation's reduction of a lane returns: one of its inputs, beyond none of them. -/
theorem column {N : ℕ} {α : Type} (o : α → α → α) [Std.Commutative o] [Std.Associative o] (R : α → α → Prop)
    (rfl' : ∀ a, R a a) (tr : ∀ a b c, R a b → R b c → R a c) (sel : ∀ a b, o a b = a ∨ o a b = b) (l : ∀ a b, R a (o a b)) (r' : ∀ a b, R b (o a b))
    (s : Fin N → S8x128.Idx → α) (a0 : S8x128.Idx → α) (c : Fin 128) :
    ∃ v, (∀ r, slane (lift o) (fold (fun k a => lift o a (s k)) a0) (gx r c) = v)
      ∧ ((∃ r, v = a0 (gx r c)) ∨ ∃ k r, v = s k (gx r c)) ∧ (∀ r, R (a0 (gx r c)) v) ∧ ∀ k r, R (s k (gx r c)) v := by
  have hf := fold_ind (fun k a => lift o a (s k)) a0
    (fun n a => ∀ i, (a i = a0 i ∨ ∃ k : Fin N, k.val < n ∧ a i = s k i) ∧ R (a0 i) (a i) ∧ ∀ k : Fin N, k.val < n → R (s k i) (a i))
    (fun i => ⟨.inl rfl, rfl' _, fun k h => absurd h (Nat.not_lt_zero _)⟩)
    (fun n h a ih i => by
      obtain ⟨h1, h2, h3⟩ := ih i
      refine ⟨?_, tr _ _ _ h2 (l _ _), fun k hk => ?_⟩
      · rcases sel (a i) (s ⟨n, h⟩ i) with e | e
        · rcases h1 with h1 | ⟨k, hk, h1⟩
          · exact .inl (e.trans h1)
          · exact .inr ⟨k, by omega, e.trans h1⟩
        · exact .inr ⟨⟨n, h⟩, Nat.lt_succ_self n, e⟩
      · rcases Nat.lt_succ_iff_lt_or_eq.mp hk with hk | hk
        · exact tr _ _ _ (h3 k hk) (l _ _)
        · have : k = ⟨n, h⟩ := Fin.ext hk
          exact this ▸ r' _ _)
  have hm : ∀ g : Fin 8 → α, (∃ r, combine8 o g = g r) ∧ ∀ r, R (g r) (combine8 o g) := by
    intro g
    have two : ∀ x y, (∃ r, x = g r) → (∃ r, y = g r) → ∃ r, o x y = g r := by
      intro x y hx hy
      rcases sel x y with e | e
      · exact hx.imp fun r h => e.trans h
      · exact hy.imp fun r h => e.trans h
    refine ⟨two _ _ (two _ _ (two _ _ ⟨0, rfl⟩ ⟨4, rfl⟩) (two _ _ ⟨2, rfl⟩ ⟨6, rfl⟩)) (two _ _ (two _ _ ⟨1, rfl⟩ ⟨5, rfl⟩) (two _ _ ⟨3, rfl⟩ ⟨7, rfl⟩)), fun r => ?_⟩
    unfold combine8
    match r with
    | 0 => exact tr _ _ _ (tr _ _ _ (l _ _) (l _ _)) (l _ _)
    | 4 => exact tr _ _ _ (tr _ _ _ (r' _ _) (l _ _)) (l _ _)
    | 2 => exact tr _ _ _ (tr _ _ _ (l _ _) (r' _ _)) (l _ _)
    | 6 => exact tr _ _ _ (tr _ _ _ (r' _ _) (r' _ _)) (l _ _)
    | 1 => exact tr _ _ _ (tr _ _ _ (l _ _) (l _ _)) (r' _ _)
    | 5 => exact tr _ _ _ (tr _ _ _ (r' _ _) (l _ _)) (r' _ _)
    | 3 => exact tr _ _ _ (tr _ _ _ (l _ _) (r' _ _)) (r' _ _)
    | 7 => exact tr _ _ _ (tr _ _ _ (r' _ _) (r' _ _)) (r' _ _)
  set w := fold (fun k a => lift o a (s k)) a0 with hw
  refine ⟨combine8 o fun k => w (gx k c), fun r => slane_apply o w r c, ?_, fun r => ?_, fun k r => ?_⟩
  · obtain ⟨r, hr⟩ := (hm fun k => w (gx k c)).1
    rw [hr]
    rcases (hf (gx r c)).1 with h | ⟨k, _, h⟩
    · exact .inl ⟨r, h⟩
    · exact .inr ⟨k, r, h⟩
  · exact tr _ _ _ (hf (gx r c)).2.1 ((hm fun k => w (gx k c)).2 r)
  · exact tr _ _ _ ((hf (gx r c)).2.2 k k.isLt) ((hm fun k => w (gx k c)).2 r)

instance : Std.Commutative (FloatOps.addf (F := Ideal) (φ := .f32)) := ⟨fun x y => show x + y = y + x from add_comm x y⟩
instance : Std.Associative (FloatOps.addf (F := Ideal) (φ := .f32)) := ⟨fun x y z => show x + y + z = x + (y + z) from add_assoc x y z⟩

theorem minsi_toInt (a b : BitVec 32) : (IntOp.minsi a b).toInt = min a.toInt b.toInt := by
  unfold IntOp.minsi
  rw [BitVec.slt_eq_decide]
  by_cases h : a.toInt < b.toInt
  · simp [h, min_eq_left h.le]
  · simp [h, min_eq_right (not_lt.mp h)]

instance : Std.Commutative (IntOp.minsi (w := 32)) :=
  ⟨fun x y => BitVec.eq_of_toInt_eq (by rw [minsi_toInt, minsi_toInt, min_comm])⟩
instance : Std.Associative (IntOp.minsi (w := 32)) :=
  ⟨fun x y z => BitVec.eq_of_toInt_eq (by simp only [minsi_toInt, min_assoc])⟩

/-- The maximum of a lane. -/
theorem column_max {N : ℕ} (s : Fin N → C8 Ideal) (a0 : C8 Ideal) (c : Fin 128) :
    ∃ v : EReal, (∀ r, slane maximumf (fold (fun k a => maximumf a (s k)) a0) (gx r c) = v)
      ∧ ((∃ r, v = a0 (gx r c)) ∨ ∃ k r, v = s k (gx r c)) ∧ (∀ r, a0 (gx r c) ≤ v) ∧ ∀ k r, s k (gx r c) ≤ v :=
  column (α := Ideal .f32) (FloatOps.maximumf (F := Ideal) (φ := .f32)) (fun a b : EReal => a ≤ b) (fun _ => le_refl _) (fun _ _ _ => le_trans)
    (fun a b => max_choice (α := EReal) a b) (fun a b => le_max_left (α := EReal) a b) (fun a b => le_max_right (α := EReal) a b) s a0 c

/-- The least number of a lane. -/
theorem column_min {N : ℕ} (s : Fin N → I8) (a0 : I8) (c : Fin 128) :
    ∃ v : BitVec 32, (∀ r, slane minsi (fold (fun k a => minsi a (s k)) a0) (gx r c) = v)
      ∧ ((∃ r, v = a0 (gx r c)) ∨ ∃ k r, v = s k (gx r c)) ∧ (∀ r, v.toInt ≤ (a0 (gx r c)).toInt) ∧ ∀ k r, v.toInt ≤ (s k (gx r c)).toInt :=
  column (IntOp.minsi (w := 32)) (fun a b => b.toInt ≤ a.toInt) (fun _ => le_refl _) (fun _ _ _ h h' => le_trans h' h)
    (fun a b => by unfold IntOp.minsi; split <;> simp) (fun a b => by rw [minsi_toInt]; exact min_le_left _ _)
    (fun a b => by rw [minsi_toInt]; exact min_le_right _ _) s a0 c

/-- The sum of a lane all of whose terms but one are zero. -/
theorem column_sum (s : Fin 20 → C8 Ideal) (c : Fin 128) (k0 : Fin 20) (r0 : Fin 8)
    (h0 : ∀ k r, ¬ (k = k0 ∧ r = r0) → s k (gx r c) = (0 : EReal)) (r : Fin 8) :
    slane addf (fold (fun k a => addf a (s k)) (z8 (F := Ideal))) (gx r c) = s k0 (gx r0 c) := by
  have hz : ∀ i, (z8 (F := Ideal)) i = (0 : EReal) := fun i => Ideal.ofBits_zero_f32
  have hf := fold_ind (fun k a => addf a (s k)) (z8 (F := Ideal))
    (fun n a => ∀ r, a (gx r c) = (if r = r0 ∧ k0.val < n then s k0 (gx r0 c) else (0 : EReal)))
    (fun r => by rw [hz]; simp)
    (fun n h a ih r => by
      show (a (gx r c) : EReal) + s ⟨n, h⟩ (gx r c) = _
      rw [ih r]
      by_cases hr : r = r0
      · by_cases hk : (⟨n, h⟩ : Fin 20) = k0
        · subst hk hr; simp
        · rw [h0 _ _ (fun e => hk e.1)]
          have : k0.val ≠ n := fun e => hk (Fin.ext e.symm)
          have e2 : k0.val < n + 1 ↔ k0.val < n := by omega
          simp [hr, e2]
      · rw [h0 _ _ (fun e => hr e.2)]; simp [hr])
  refine (slane_apply (α := Ideal .f32) (FloatOps.addf (F := Ideal) (φ := .f32)) _ r c).trans ?_
  simp only [hf, k0.isLt, and_true]
  unfold combine8
  show (((((if (0 : Fin 8) = r0 then s k0 (gx r0 c) else (0 : EReal)) + (if (4 : Fin 8) = r0 then s k0 (gx r0 c) else 0)) + ((if (2 : Fin 8) = r0 then s k0 (gx r0 c) else 0) + (if (6 : Fin 8) = r0 then s k0 (gx r0 c) else 0)))
    + (((if (1 : Fin 8) = r0 then s k0 (gx r0 c) else 0) + (if (5 : Fin 8) = r0 then s k0 (gx r0 c) else 0)) + ((if (3 : Fin 8) = r0 then s k0 (gx r0 c) else 0) + (if (7 : Fin 8) = r0 then s k0 (gx r0 c) else 0)))) : EReal) = _
  generalize s k0 (gx r0 c) = x
  revert r0
  intro r0 _ _
  fin_cases r0 <;> simp

end Cert.Proof

end
-- ==== Proof.Search.lean ====
module

public import proofs.«01_k».proof.Proof.Column
public import Idealize.ShloMosaic.Lib.IdealHost
public import Idealize.ShloMosaic.Lib.Pipeline.Value

@[expose] public section

noncomputable section

namespace Cert.Proof

open Cert.KernelIdeal Cert.KernelIdeal.Gen

open Idealize.ShloMosaic

/-! What the search finds, at the ideal floats. -/

theorem flatP_apply (ρ : Fin 160) (c : Fin 128) : flatP (pp ρ c) = BitVec.ofNat 32 ((127 - c.val) * 160 + ρ.val) := by
  unfold flatP k0_pay3
  rw [shapeCast_self]
  show (127#32 - iota .tc S160x128 32 [1] iota_S160x128_d1_w32 (pp ρ c)) * 160#32 + iota .tc S160x128 32 [0] iota_S160x128_d0_w32 (pp ρ c) = _
  rw [iota_single_apply, iota_single_apply]
  show (127#32 - BitVec.ofNat 32 c.val) * 160#32 + BitVec.ofNat 32 ρ.val = _
  apply BitVec.eq_of_toNat_eq
  simp only [BitVec.toNat_add, BitVec.toNat_mul, BitVec.toNat_sub, BitVec.toNat_ofNat]
  have := c.isLt; have := ρ.isLt
  omega

theorem flatP_toInt (ρ : Fin 160) (c : Fin 128) : (flatP (pp ρ c)).toInt < 40960 := by
  have := c.isLt; have := ρ.isLt
  have hb : (127 - c.val) * 160 + ρ.val < 40960 := by omega
  rw [flatP_apply]
  generalize (127 - c.val) * 160 + ρ.val = n at hb
  have : (BitVec.ofNat 32 n).toNat = n := by rw [BitVec.toNat_ofNat]; exact Nat.mod_eq_of_lt (by omega)
  rw [BitVec.toInt_eq_toNat_of_lt (by omega), this]
  omega

theorem flatP_inj {ρ ρ' : Fin 160} {c : Fin 128} (h : flatP (pp ρ c) = flatP (pp ρ' c)) : ρ = ρ' := by
  have := congrArg BitVec.toNat h
  rw [flatP_apply, flatP_apply, BitVec.toNat_ofNat, BitVec.toNat_ofNat] at this
  have := c.isLt; have := ρ.isLt; have := ρ'.isLt
  exact Fin.ext (by omega)

theorem one_of_ofBool {p : Prop} [Decidable p] : (BitVec.ofBool (decide p) = 1#1) = p := by
  by_cases h : p <;> simp [h]

theorem ite_ofBool {p : Prop} [Decidable p] {α : Type} (a b : α) : (if BitVec.ofBool (decide p) = 1#1 then a else b) = if p then a else b := by
  by_cases h : p <;> simp [h]

/-- The least number among the hits of a lane is the number of a hit. -/
theorem column_index (hit : Fin 20 → S8x128.Idx → BitVec 1) (c : Fin 128) (h : ∃ k r, hit k (gx r c) = 1#1) :
    ∃ k r, hit k (gx r c) = 1#1 ∧ ∀ r', slane minsi (fold (fun k a => minsi a (select (hit k) (rdI Ideal flatP k) big8)) big8) (gx r' c) = flatP (pp (rw' k r) c) := by
  obtain ⟨v, hv, hc, -, hb⟩ := column_min (fun k => select (hit k) (rdI Ideal flatP k) big8) big8 c
  obtain ⟨k0, r0, h0⟩ := h
  have hlt : v.toInt < 40960 := lt_of_le_of_lt (hb k0 r0) (by
    show (if hit k0 (gx r0 c) = 1#1 then rdI Ideal flatP k0 (gx r0 c) else _).toInt < _
    rw [if_pos h0, rdI_apply]; exact flatP_toInt _ _)
  have hbig : ∀ i, (big8 i).toInt = 40960 := fun i => by show (40960#32 : BitVec 32).toInt = _; decide
  rcases hc with ⟨r, hr⟩ | ⟨k, r, hr⟩
  · rw [hr, hbig] at hlt; exact absurd hlt (lt_irrefl _)
  · by_cases hk : hit k (gx r c) = 1#1
    · refine ⟨k, r, hk, fun r' => (hv r').trans (hr.trans ?_)⟩
      show (if hit k (gx r c) = 1#1 then rdI Ideal flatP k (gx r c) else _) = _
      rw [if_pos hk, rdI_apply]
    · have : v = big8 (gx r c) := hr.trans (if_neg hk)
      rw [this, hbig] at hlt; exact absurd hlt (lt_irrefl _)

theorem row0_apply (v : C8 Ideal) (c : Fin 128) : row0 v (lix c) = v (gx 0 c) := by
  refine congrArg v (funext fun a => ?_)
  match a with
  | 0 => exact Fin.ext rfl
  | 1 => exact Fin.ext (by show 0 + c.val = c.val; omega)

theorem coordS_apply (X : V2 Ideal) (ci : I8) (c : Fin 128) (ρ : Fin 160) (h : ∀ r, ci (gx r c) = flatP (pp ρ c)) :
    coordS (rd X) (rdI Ideal flatP) ci (lix c) = X (pp ρ c) := by
  obtain ⟨k0, r0, rfl⟩ := rw'_surj ρ
  have key : ∀ k r, (select (cmpi .eq (rdI Ideal flatP k) ci) (shapeCast S8x128 (rd X k) shapeCasts_S8x128_S8x128) (z8 (F := Ideal))) (gx r c)
      = if k = k0 ∧ r = r0 then X (pp (rw' k r) c) else (0 : EReal) := by
    intro k r
    rw [shapeCast_self]
    show (if BitVec.ofBool (decide (rdI Ideal flatP k (gx r c) = ci (gx r c))) = 1#1 then rd X k (gx r c) else (z8 (F := Ideal)) (gx r c)) = _
    rw [ite_ofBool, rdI_apply, h, rd_apply]
    have e : (flatP (pp (rw' k r) c) = flatP (pp (rw' k0 r0) c)) ↔ (k = k0 ∧ r = r0) :=
      ⟨fun e => rw'_inj (flatP_inj e), fun ⟨a, b⟩ => by rw [a, b]⟩
    by_cases hk : k = k0 ∧ r = r0
    · rw [if_pos (e.mpr hk), if_pos hk]
    · rw [if_neg (fun x => hk (e.mp x)), if_neg hk]; exact Ideal.ofBits_zero_f32
  unfold coordS cAcc
  rw [row0_apply]
  refine (column_sum (fun k => select (cmpi .eq (rdI Ideal flatP k) ci) (shapeCast S8x128 (rd X k) shapeCasts_S8x128_S8x128) (z8 (F := Ideal))) c k0 r0
    (fun k r hkr => (key k r).trans (if_neg hkr)) 0).trans ((key k0 r0).trans (if_pos ⟨rfl, rfl⟩))

variable (X1 Y1 X2 Y2 L : V2 Ideal)

/-- What the pass over the rows finds in lane `c`: the best of the lane and, unless nothing else scores, the best of the rest. -/
structure LaneBest (Q : Lanes Ideal) (c : Fin 128) (ρ : Fin 160) : Prop where
  top : ∀ ρ', (L (pp ρ' c) : EReal) ≤ L (pp ρ c)
  cm1 : Q.cm1 (lix c) = L (pp ρ c)
  x1 : Q.x11 (lix c) = X1 (pp ρ c)
  y1 : Q.y11 (lix c) = Y1 (pp ρ c)
  x2 : Q.x21 (lix c) = X2 (pp ρ c)
  y2 : Q.y21 (lix c) = Y2 (pp ρ c)
  nonneg : (0 : EReal) ≤ Q.cm2 (lix c)
  rest : ∀ ρ', ρ' ≠ ρ → (L (pp ρ' c) : EReal) ≤ Q.cm2 (lix c)
  second : (0 : EReal) < Q.cm2 (lix c) → ∃ ρ', ρ' ≠ ρ ∧ Q.cm2 (lix c) = L (pp ρ' c) ∧ Q.x12 (lix c) = X1 (pp ρ' c)
    ∧ Q.y12 (lix c) = Y1 (pp ρ' c) ∧ Q.x22 (lix c) = X2 (pp ρ' c) ∧ Q.y22 (lix c) = Y2 (pp ρ' c)

theorem lane_top (c : Fin 128) : ∃ ρ, (∀ ρ', (L (pp ρ' c) : EReal) ≤ L (pp ρ c)) ∧ (∀ r, colmaxS (rd L) (gx r c) = L (pp ρ c))
    ∧ ∀ r, colidxS (rd L) (rdI Ideal flatP) (colmaxS (rd L)) (gx r c) = flatP (pp ρ c) := by
  obtain ⟨v, hv, hc, hb0, hb⟩ := column_max (N := 19) (fun k => rd L k.succ) (rd L 0) c
  have hv : ∀ r, colmaxS (rd L) (gx r c) = v := hv
  generalize colmaxS (rd L) = cm at hv
  have hatt : ∃ k r, v = rd L k (gx r c) := by
    rcases hc with ⟨r, h⟩ | ⟨k, r, h⟩
    · exact ⟨0, r, h⟩
    · exact ⟨k.succ, r, h⟩
  have hall : ∀ k r, (rd L k (gx r c) : EReal) ≤ v := fun k r => by
    refine Fin.cases (hb0 r) (fun k => hb k r) k
  have hmax : ∀ ρ, (L (pp ρ c) : EReal) ≤ v := fun ρ => by
    obtain ⟨k, r, rfl⟩ := rw'_surj ρ
    rw [← rd_apply L]; exact hall k r
  obtain ⟨k1, r1, hk1, hidx⟩ := column_index (fun k => cmpf .oeq (rd L k) cm) c (by
    obtain ⟨k, r, h⟩ := hatt
    refine ⟨k, r, ?_⟩
    show BitVec.ofBool (decide (rd L k (gx r c) = cm (gx r c))) = 1#1
    rw [one_of_ofBool, hv, h])
  have hk1 : L (pp (rw' k1 r1) c) = v := by
    rw [← rd_apply L, ← hv r1]
    have : BitVec.ofBool (decide (rd L k1 (gx r1 c) = cm (gx r1 c))) = 1#1 := hk1
    rwa [one_of_ofBool] at this
  exact ⟨rw' k1 r1, fun ρ' => (hmax ρ').trans_eq hk1.symm, fun r => (hv r).trans hk1.symm, hidx⟩

theorem lane_second (ci : I8) (c : Fin 128) (ρ : Fin 160) (hidx : ∀ r, ci (gx r c) = flatP (pp ρ c)) :
    ∃ v : EReal, (∀ r, colmax2S (rd L) (rdI Ideal flatP) ci (gx r c) = v) ∧ 0 ≤ v ∧ (∀ ρ', ρ' ≠ ρ → (L (pp ρ' c) : EReal) ≤ v)
      ∧ (0 < v → ∃ ρ', ρ' ≠ ρ ∧ v = L (pp ρ' c)
        ∧ ∀ r, colidx2S (rd L) (rdI Ideal flatP) ci (colmax2S (rd L) (rdI Ideal flatP) ci) (gx r c) = flatP (pp ρ' c)) := by
  have masked : ∀ k r, (select (cmpi .eq (rdI Ideal flatP k) ci) (z8 (F := Ideal)) (rd L k)) (gx r c)
      = if rw' k r = ρ then (0 : EReal) else L (pp (rw' k r) c) := by
    intro k r
    show (if BitVec.ofBool (decide (rdI Ideal flatP k (gx r c) = ci (gx r c))) = 1#1 then (z8 (F := Ideal)) (gx r c) else rd L k (gx r c)) = _
    rw [ite_ofBool, rdI_apply, hidx, rd_apply]
    by_cases hk : rw' k r = ρ
    · rw [if_pos (by rw [hk]), if_pos hk]; exact Ideal.ofBits_zero_f32
    · rw [if_neg (fun x => hk (flatP_inj x)), if_neg hk]
  obtain ⟨v', hv', hc', hb0', hb'⟩ := column_max (fun k => select (cmpi .eq (rdI Ideal flatP k) ci) (z8 (F := Ideal)) (rd L k)) (z8 (F := Ideal)) c
  have hv' : ∀ r, colmax2S (rd L) (rdI Ideal flatP) ci (gx r c) = v' := hv'
  generalize colmax2S (rd L) (rdI Ideal flatP) ci = cm' at hv'
  have hz : ∀ i, (z8 (F := Ideal)) i = (0 : EReal) := fun i => Ideal.ofBits_zero_f32
  refine ⟨v', hv', (hz (gx 0 c)).symm.trans_le (hb0' 0), ?_, ?_⟩
  · intro ρ' hne
    obtain ⟨k, r, rfl⟩ := rw'_surj ρ'
    have := hb' k r
    rwa [masked, if_neg hne] at this
  · intro hpos
    have hatt' : ∃ k r, rw' k r ≠ ρ ∧ v' = L (pp (rw' k r) c) := by
      rcases hc' with ⟨r, h⟩ | ⟨k, r, h⟩
      · rw [h, hz] at hpos; exact absurd hpos (lt_irrefl _)
      · rw [masked] at h
        by_cases hk : rw' k r = ρ
        · rw [if_pos hk] at h; rw [h] at hpos; exact absurd hpos (lt_irrefl _)
        · exact ⟨k, r, hk, by rwa [if_neg hk] at h⟩
    have hit : ∀ k r, ((andi (cmpf .oeq (rd L k) cm') (cmpi .ne (rdI Ideal flatP k) ci)) (gx r c) = 1#1) ↔ (L (pp (rw' k r) c) = v' ∧ rw' k r ≠ ρ) := by
      intro k r
      show (BitVec.ofBool (decide (rd L k (gx r c) = cm' (gx r c))) &&& BitVec.ofBool (rdI Ideal flatP k (gx r c) != ci (gx r c)) = 1#1) ↔ _
      rw [rd_apply, hv', rdI_apply, hidx]
      have e : flatP (pp (rw' k r) c) = flatP (pp ρ c) ↔ rw' k r = ρ := ⟨flatP_inj, fun e => by rw [e]⟩
      by_cases h1 : L (pp (rw' k r) c) = v' <;> by_cases h2 : rw' k r = ρ <;> simp [h1, h2, bne, e]
      all_goals (rw [beq_eq_false_iff_ne.mpr (fun x => h2 (e.mp x))]; decide)
    obtain ⟨k2, r2, hk2, hidx2⟩ := column_index (fun k => andi (cmpf .oeq (rd L k) cm') (cmpi .ne (rdI Ideal flatP k) ci)) c (by
      obtain ⟨k, r, h, h'⟩ := hatt'
      exact ⟨k, r, (hit k r).mpr ⟨h'.symm, h⟩⟩)
    obtain ⟨e1, e2⟩ := (hit k2 r2).mp hk2
    exact ⟨rw' k2 r2, e2, e1.symm, hidx2⟩

theorem best_of (cm cm' : C8 Ideal) (ci ci' : I8) (c : Fin 128) (ρ : Fin 160) (v : EReal) (h1 : ∀ ρ', (L (pp ρ' c) : EReal) ≤ L (pp ρ c))
    (h2 : ∀ r, cm (gx r c) = L (pp ρ c)) (h3 : ∀ r, ci (gx r c) = flatP (pp ρ c)) (g1 : ∀ r, cm' (gx r c) = v) (g2 : 0 ≤ v)
    (g3 : ∀ ρ', ρ' ≠ ρ → (L (pp ρ' c) : EReal) ≤ v)
    (g4 : 0 < v → ∃ ρ', ρ' ≠ ρ ∧ v = L (pp ρ' c) ∧ ∀ r, ci' (gx r c) = flatP (pp ρ' c)) :
    LaneBest X1 Y1 X2 Y2 L ⟨row0 cm, row0 cm', coordS (rd X1) (rdI Ideal flatP) ci, coordS (rd Y1) (rdI Ideal flatP) ci,
      coordS (rd X2) (rdI Ideal flatP) ci, coordS (rd Y2) (rdI Ideal flatP) ci, coordS (rd X1) (rdI Ideal flatP) ci',
      coordS (rd Y1) (rdI Ideal flatP) ci', coordS (rd X2) (rdI Ideal flatP) ci', coordS (rd Y2) (rdI Ideal flatP) ci'⟩ c ρ := by
  have e : row0 cm' (lix c) = v := (row0_apply cm' c).trans (g1 0)
  exact {
    top := h1
    cm1 := (row0_apply cm c).trans (h2 0)
    x1 := coordS_apply X1 ci c ρ h3
    y1 := coordS_apply Y1 ci c ρ h3
    x2 := coordS_apply X2 ci c ρ h3
    y2 := coordS_apply Y2 ci c ρ h3
    nonneg := g2.trans_eq e.symm
    rest := fun ρ' h => (g3 ρ' h).trans_eq e.symm
    second := fun hp => by
      obtain ⟨ρ', k1, k2, k3⟩ := g4 (lt_of_lt_of_eq hp e)
      exact ⟨ρ', k1, e.trans k2, coordS_apply X1 ci' c ρ' k3, coordS_apply Y1 ci' c ρ' k3, coordS_apply X2 ci' c ρ' k3, coordS_apply Y2 ci' c ρ' k3⟩ }

theorem lanes_best (c : Fin 128) :
    ∃ ρ, LaneBest X1 Y1 X2 Y2 L (lanes (rd X1) (rd Y1) (rd X2) (rd Y2) (rd L) (rdI Ideal flatP)) c ρ := by
  obtain ⟨ρ, h1, h2, h3⟩ := lane_top L c
  obtain ⟨v, g1, g2, g3, g4⟩ := lane_second L _ c ρ h3
  exact ⟨ρ, best_of X1 Y1 X2 Y2 L _ _ _ _ c ρ v h1 h2 h3 g1 g2 g3 g4⟩

/-! ## Over the lanes -/

theorem lix_surj (i : S1x128.Idx) : ∃ c, i = lix c := ⟨i 1, funext fun a => by
  match a with
  | 0 => exact Fin.ext (by have : (i 0).val < 1 := (i 0).isLt; show (i 0).val = 0; omega)
  | 1 => rfl⟩

theorem lane_apply (c : Fin 128) : lane (lix c) = BitVec.ofNat 32 c.val := iota_single_apply _ _ _ _ _ _

/-- The lane hit is one that holds the highest value. -/
theorem laneHit_best (r : Row Ideal) : ∃ c0, (∀ c, (r (lix c) : EReal) ≤ r (lix c0)) ∧ ∀ c, laneHit lane r (lix c) = 1#1 ↔ c = c0 := by
  classical
  have key : ∃ c0 : Fin 128, (∀ c, (r (lix c) : EReal) ≤ r (lix c0)) ∧ ∀ j, reduceIndex (F := Ideal) .argMax 1 S1 r reduces_S1x128_S1 j = BitVec.ofNat 32 c0.val := by
    obtain ⟨cm, hm⟩ := Finite.exists_max (fun c : Fin 128 => (r (lix c) : EReal))
    have hd : ∀ (i : S1x128.Idx) (j : S1.Idx), reduces_S1x128_S1.drop i = j := fun i j => funext fun a => Fin.ext (by
      have h1 : ((reduces_S1x128_S1.drop i) a).val < S1.size a := ((reduces_S1x128_S1.drop i) a).isLt
      have h2 : (j a).val < S1.size a := (j a).isLt
      have : S1.size a = 1 := by fin_cases a; rfl
      omega)
    set ext := (Finset.univ : Finset S1x128.Idx).filter (fun i => ∀ i', ¬ (r i : EReal) < r i') with hext
    have hne : (ext.image fun i => (i 1).val).Nonempty := ⟨cm.val, Finset.mem_image.mpr ⟨lix cm, by
      rw [hext, Finset.mem_filter]
      refine ⟨Finset.mem_univ _, fun i' => ?_⟩
      obtain ⟨c, rfl⟩ := lix_surj i'
      exact not_lt.mpr (hm c), rfl⟩⟩
    obtain ⟨n, hn⟩ := Finset.min_of_nonempty hne
    obtain ⟨i, hi, hin⟩ := Finset.mem_image.mp (Finset.mem_of_min hn)
    obtain ⟨c0, rfl⟩ := lix_surj i
    rw [hext, Finset.mem_filter] at hi
    refine ⟨c0, fun c => not_lt.mp (hi.2 (lix c)), fun j => ?_⟩
    show Ideal.reduceIndex .argMax 1 reduces_S1x128_S1 r j = _
    unfold Ideal.reduceIndex
    have e : (Finset.univ.filter fun i : S1x128.Idx => reduces_S1x128_S1.drop i = j) = Finset.univ :=
      Finset.filter_true_of_mem fun i _ => hd i j
    simp only [e, Finset.mem_univ, true_imp_iff, if_true]
    have hn' : (((Finset.univ : Finset S1x128.Idx).filter (fun i => ∀ i', ¬ (r i : EReal) < r i')).image fun i => (i 1).val).min = n := by rw [← hext]; exact hn
    have : c0.val = n := hin
    rw [this]
    refine Eq.trans ?_ ((congrArg (fun o : WithTop ℕ => BitVec.ofNat 32 (Option.getD o 0)) hn').trans rfl)
    congr!
  obtain ⟨c0, h1, h2⟩ := key
  refine ⟨c0, h1, fun c => ?_⟩
  have e : laneHit lane r (lix c) = BitVec.ofBool (decide (BitVec.ofNat 32 c.val = BitVec.ofNat 32 c0.val)) :=
    (show laneHit lane r (lix c) = BitVec.ofBool (lane (lix c) == broadcastTo S1x128 (shapeCast S1x1 (reduceIndex .argMax 1 S1 r reduces_S1x128_S1) shapeCasts_S1_S1x1) broadcasts_S1x1_S1x128 (lix c)) from rfl).trans
      ((congrArg (fun x => BitVec.ofBool (lane (lix c) == x)) (h2 (Shape.reshapeEquiv shapeCasts_S1_S1x1 _))).trans (by rw [lane_apply]; rfl))
  rw [e, one_of_ofBool]
  constructor
  · intro h
    have := congrArg BitVec.toNat h
    rw [BitVec.toNat_ofNat, BitVec.toNat_ofNat] at this
    have := c.isLt; have := c0.isLt
    exact Fin.ext (by omega)
  · rintro rfl
    rfl

theorem laneSum_apply (hit : IVec S1x128 1) (v : Row Ideal) (c0 : Fin 128) (h : ∀ c, hit (lix c) = 1#1 ↔ c = c0) (i : S1x128.Idx) :
    laneSum hit v i = v (lix c0) := by
  show (multiReduction (F := Ideal) .add [1] S1 (select hit v z1) 0x00000000#32 reduces_S1x128_S1 (.inl rfl) rfl _ : EReal) + (z1 (F := Ideal)) i = _
  have hz : ∀ i, (z1 (F := Ideal)) i = (0 : EReal) := fun i => Ideal.ofBits_zero_f32
  rw [hz, add_zero]
  refine (Ideal.multiReduction_add_total (select hit v (z1 (F := Ideal))) 0x00000000#32 reduces_S1x128_S1 (fun b => by fin_cases b; rfl) (.inl rfl) rfl _).trans ?_
  rw [Finset.sum_eq_single (lix c0)]
  · show (if hit (lix c0) = 1#1 then _ else _) = _
    rw [if_pos ((h c0).mpr rfl)]
  · intro i _ hi
    obtain ⟨c, rfl⟩ := lix_surj i
    show (if hit (lix c) = 1#1 then v (lix c) else (z1 (F := Ideal)) (lix c)) = (0 : EReal)
    rw [if_neg (fun x => hi (by rw [(h c).mp x])), hz]
  · exact fun h => absurd (Finset.mem_univ _) h

/-- The corners of the box at `p`, as a search returns them. -/
structure Holds (w : Pick Ideal) (p : S160x128.Idx) : Prop where
  m : ∀ i, w.m i = L p
  x1 : ∀ i, w.x1 i = X1 p
  y1 : ∀ i, w.y1 i = Y1 p
  x2 : ∀ i, w.x2 i = X2 p
  y2 : ∀ i, w.y2 i = Y2 p

/-- The overlap over the union as the search computes it from two boxes' corners. -/
def iou2 (a1 b1 a2 b2 p1 q1 p2 q2 : EReal) : EReal :=
  Ideal.div (max (min a2 p2 - max a1 p1) 0 * max (min b2 q2 - max b1 q1) 0)
    ((a2 - a1) * (b2 - b1) + (p2 - p1) * (q2 - q1) - max (min a2 p2 - max a1 p1) 0 * max (min b2 q2 - max b1 q1) 0 + Ideal.ofBits .f32 0x3089705F#32)

abbrev thr : EReal := Ideal.ofBits .f32 0x3EE66666#32

/-- A search: the best box, whatever bounds the rest, and the best of the rest where it scores. -/
structure Finds (w : Found Ideal) (p : S160x128.Idx) : Prop where
  top : ∀ q, (L q : EReal) ≤ L p
  a : Holds X1 Y1 X2 Y2 L w.a p
  bconst : ∃ b : EReal, (∀ i, w.b.m i = b) ∧ 0 ≤ b ∧ (∀ q, q ≠ p → (L q : EReal) ≤ b)
    ∧ (0 < b → ∃ q, q ≠ p ∧ L q = b ∧ Holds X1 Y1 X2 Y2 L w.b q
      ∧ ∀ i, w.acc i = if thr < iou2 (X1 p) (Y1 p) (X2 p) (Y2 p) (X1 q) (Y1 q) (X2 q) (Y2 q) then (0 : EReal) else 1)

theorem okRow_apply (r : Row Ideal) (i : S1x128.Idx) : okRow r i = if thr < r i then (0 : EReal) else 1 := by
  have e : okRow r i = if BitVec.ofBool (decide (thr < r i)) = 1#1 then Ideal.ofBits .f32 0x00000000#32 else Ideal.ofBits .f32 0x3F800000#32 := rfl
  rw [e, ite_ofBool, Ideal.ofBits_zero_f32, Ideal.ofBits_one_f32]

theorem iouRow_apply (a1 b1 a2 b2 p1 q1 p2 q2 : Row Ideal) (i : S1x128.Idx) :
    iouRow a1 b1 a2 b2 p1 q1 p2 q2 i = iou2 (a1 i) (b1 i) (a2 i) (b2 i) (p1 i) (q1 i) (p2 i) (q2 i) := by
  unfold iou2
  rw [← Ideal.ofBits_zero_f32]
  rfl

theorem pp_surj (p : S160x128.Idx) : ∃ ρ c, p = pp ρ c := ⟨p 0, p 1, ValueIdx.eq_ix2 p⟩

theorem search_finds : ∃ p, Finds X1 Y1 X2 Y2 L (search lane X1 Y1 X2 Y2 flatP L) p := by
  unfold search
  have hQ := lanes_best X1 Y1 X2 Y2 L
  generalize lanes (rd X1) (rd Y1) (rd X2) (rd Y2) (rd L) (rdI Ideal flatP) = Q at hQ
  choose ρ hρ using hQ
  obtain ⟨c1, h1max, h1⟩ := laneHit_best Q.cm1
  unfold choose
  set hit1 := laneHit lane Q.cm1 with hhit1
  set mm := select hit1 Q.cm2 Q.cm1 with hmm
  have hsel : ∀ (u v : Row Ideal) c, select hit1 u v (lix c) = if c = c1 then u (lix c) else v (lix c) := fun u v c => by
    show (if hit1 (lix c) = 1#1 then _ else _) = _
    by_cases h : c = c1
    · rw [if_pos ((h1 c).mpr h), if_pos h]
    · rw [if_neg (fun x => h ((h1 c).mp x)), if_neg h]
  obtain ⟨c2, h2max, h2⟩ := laneHit_best mm
  set hit2 := laneHit lane mm with hhit2
  have s1 : ∀ v i, laneSum hit1 v i = v (lix c1) := fun v i => laneSum_apply hit1 v c1 h1 i
  have s2 : ∀ v i, laneSum hit2 v i = v (lix c2) := fun v i => laneSum_apply hit2 v c2 h2 i
  have hmmv : ∀ c, mm (lix c) = if c = c1 then Q.cm2 (lix c) else Q.cm1 (lix c) := hsel _ _
  have htop : ∀ q, (L q : EReal) ≤ L (pp (ρ c1) c1) := fun q => by
    obtain ⟨ρ', c, rfl⟩ := pp_surj q
    have := h1max c
    rw [(hρ c).cm1, (hρ c1).cm1] at this
    exact ((hρ c).top ρ').trans this
  have hA : Holds X1 Y1 X2 Y2 L ⟨laneSum hit1 Q.cm1, laneSum hit1 Q.x11, laneSum hit1 Q.y11, laneSum hit1 Q.x21, laneSum hit1 Q.y21⟩ (pp (ρ c1) c1) :=
    ⟨fun i => (s1 _ i).trans (hρ c1).cm1, fun i => (s1 _ i).trans (hρ c1).x1, fun i => (s1 _ i).trans (hρ c1).y1,
      fun i => (s1 _ i).trans (hρ c1).x2, fun i => (s1 _ i).trans (hρ c1).y2⟩
  refine ⟨pp (ρ c1) c1, htop, hA, mm (lix c2), fun i => s2 _ i, ?_, ?_, ?_⟩
  · have := h2max c1
    rw [hmmv c1, if_pos rfl] at this
    exact (hρ c1).nonneg.trans this
  · intro q hq
    obtain ⟨ρ', c, rfl⟩ := pp_surj q
    refine le_trans ?_ (h2max c)
    rw [hmmv c]
    by_cases h : c = c1
    · subst h
      rw [if_pos rfl]
      exact (hρ c).rest ρ' (fun e => hq (by rw [e]))
    · rw [if_neg h, (hρ c).cm1]; exact (hρ c).top ρ'
  · intro hpos
    have fin : ∀ q : S160x128.Idx, mm (lix c2) = L q → (select hit1 Q.x12 Q.x11) (lix c2) = X1 q → (select hit1 Q.y12 Q.y11) (lix c2) = Y1 q
        → (select hit1 Q.x22 Q.x21) (lix c2) = X2 q → (select hit1 Q.y22 Q.y21) (lix c2) = Y2 q → q ≠ pp (ρ c1) c1 →
        ∃ q, q ≠ pp (ρ c1) c1 ∧ L q = mm (lix c2) ∧ Holds X1 Y1 X2 Y2 L ⟨laneSum hit2 mm, laneSum hit2 (select hit1 Q.x12 Q.x11), laneSum hit2 (select hit1 Q.y12 Q.y11),
          laneSum hit2 (select hit1 Q.x22 Q.x21), laneSum hit2 (select hit1 Q.y22 Q.y21)⟩ q
          ∧ ∀ i, laneSum hit2 (okRow (iouRow (laneSum hit1 Q.x11) (laneSum hit1 Q.y11) (laneSum hit1 Q.x21) (laneSum hit1 Q.y21)
            (select hit1 Q.x12 Q.x11) (select hit1 Q.y12 Q.y11) (select hit1 Q.x22 Q.x21) (select hit1 Q.y22 Q.y21))) i
            = if thr < iou2 (X1 (pp (ρ c1) c1)) (Y1 (pp (ρ c1) c1)) (X2 (pp (ρ c1) c1)) (Y2 (pp (ρ c1) c1)) (X1 q) (Y1 q) (X2 q) (Y2 q) then (0 : EReal) else 1 := by
      intro q em e1 e2 e3 e4 hne
      refine ⟨q, hne, em.symm, ⟨fun i => (s2 _ i).trans em, fun i => (s2 _ i).trans e1, fun i => (s2 _ i).trans e2, fun i => (s2 _ i).trans e3, fun i => (s2 _ i).trans e4⟩, fun i => ?_⟩
      rw [s2]
      rw [okRow_apply, iouRow_apply, e1, e2, e3, e4, s1, s1, s1, s1, (hρ c1).x1, (hρ c1).y1, (hρ c1).x2, (hρ c1).y2]
    by_cases h : c2 = c1
    · have hm2 : mm (lix c2) = Q.cm2 (lix c1) := by rw [h, hmmv c1, if_pos rfl]
      obtain ⟨ρ', hne, e0, e1, e2, e3, e4⟩ := (hρ c1).second (by rw [← hm2]; exact hpos)
      refine fin (pp ρ' c1) (hm2.trans e0) ?_ ?_ ?_ ?_ (fun e => hne (congrFun e 0))
      all_goals (rw [h, hsel, if_pos rfl]; assumption)
    · refine fin (pp (ρ c2) c2) ?_ ?_ ?_ ?_ ?_ (fun e => h (congrFun e 1))
      · rw [hmmv, if_neg h, (hρ c2).cm1]
      · rw [hsel, if_neg h, (hρ c2).x1]
      · rw [hsel, if_neg h, (hρ c2).y1]
      · rw [hsel, if_neg h, (hρ c2).x2]
      · rw [hsel, if_neg h, (hρ c2).y2]

end Cert.Proof

end
-- ==== Proof.Strike.lean ====
module

public import proofs.«01_k».proof.Proof.Search

@[expose] public section

noncomputable section

namespace Cert.Proof

open Cert.KernelIdeal Cert.KernelIdeal.Gen

open Idealize.ShloMosaic

/-! What a found box strikes out, and the row stored for it, at the ideal floats. -/

/-- The same overlap with the areas given. -/
def iouA (b1 b2 b3 b4 ba x1 y1 x2 y2 ar : EReal) : EReal :=
  Ideal.div (max (min b3 x2 - max b1 x1) 0 * max (min b4 y2 - max b2 y1) 0)
    (ba + ar - max (min b3 x2 - max b1 x1) 0 * max (min b4 y2 - max b2 y1) 0 + Ideal.ofBits .f32 0x3089705F#32)

theorem suppC_apply (b1 b2 b3 b4 ba : Row Ideal) (B1 B2 B3 B4 BA : EReal) (h1 : ∀ i, b1 i = B1) (h2 : ∀ i, b2 i = B2) (h3 : ∀ i, b3 i = B3)
    (h4 : ∀ i, b4 i = B4) (h5 : ∀ i, ba i = BA) (x1 y1 x2 y2 ar lv : C8 Ideal) (i : S8x128.Idx) :
    suppC b1 b2 b3 b4 ba x1 y1 x2 y2 ar lv i = if thr < iouA B1 B2 B3 B4 BA (x1 i) (y1 i) (x2 i) (y2 i) (ar i) then (0 : EReal) else lv i := by
  obtain rfl : b1 = fun _ => B1 := funext h1
  obtain rfl : b2 = fun _ => B2 := funext h2
  obtain rfl : b3 = fun _ => B3 := funext h3
  obtain rfl : b4 = fun _ => B4 := funext h4
  obtain rfl : ba = fun _ => BA := funext h5
  unfold suppC iouA
  simp only [shapeCast_self]
  rw [← Ideal.ofBits_zero_f32, ← ite_ofBool]
  rfl

theorem supp_apply (b1 b2 b3 b4 ba : Row Ideal) (B1 B2 B3 B4 BA : EReal) (h1 : ∀ i, b1 i = B1) (h2 : ∀ i, b2 i = B2) (h3 : ∀ i, b3 i = B3)
    (h4 : ∀ i, b4 i = B4) (h5 : ∀ i, ba i = BA) (x1 y1 x2 y2 ar lv : V2 Ideal) (p : S160x128.Idx) :
    supp b1 b2 b3 b4 ba x1 y1 x2 y2 ar lv p = if thr < iouA B1 B2 B3 B4 BA (x1 p) (y1 p) (x2 p) (y2 p) (ar p) then (0 : EReal) else lv p := by
  obtain ⟨ρ, c, rfl⟩ := pp_surj p
  obtain ⟨k, r, rfl⟩ := rw'_surj ρ
  have e : ∀ v : V2 Ideal, v (pp (rw' k r) c) = rd v k (gx r c) := fun v => (rd_apply v k r c).symm
  rw [e x1, e y1, e x2, e y2, e ar, e lv, ← suppC_apply b1 b2 b3 b4 ba B1 B2 B3 B4 BA h1 h2 h3 h4 h5]
  refine (e (supp b1 b2 b3 b4 ba x1 y1 x2 y2 ar lv)).trans ?_
  unfold supp
  rw [rd_planeOf]

theorem thr_pos : (0 : EReal) < thr := by
  unfold thr
  simp [Ideal.ofBits, Ideal.ieee]
  rw [← EReal.coe_mul]
  exact EReal.coe_pos.mpr (by norm_num)

/-- A box of zeros overlaps nothing. -/
theorem iouA_zero (x1 y1 x2 y2 ar : EReal) : ¬ thr < iouA 0 0 0 0 0 x1 y1 x2 y2 ar := by
  have h : max (min 0 x2 - max 0 x1) 0 = (0 : EReal) := by
    refine max_eq_right ?_
    have := EReal.sub_le_sub (min_le_left (0 : EReal) x2) (le_max_left (0 : EReal) x1)
    simpa using this
  unfold iouA
  rw [h, zero_mul]
  unfold Ideal.div
  split
  · simp
  · simp [thr_pos.le]

section
variable (X1 Y1 X2 Y2 L : V2 Ideal)

/-- Striking by the box at `p`. -/
theorem struck1_apply (w : Found Ideal) (p : S160x128.Idx) (h : Holds X1 Y1 X2 Y2 L w.a p) (lv : V2 Ideal) (q : S160x128.Idx) :
    struck1 w X1 Y1 X2 Y2 (areaP X1 Y1 X2 Y2) lv q
      = if thr < iou2 (X1 p) (Y1 p) (X2 p) (Y2 p) (X1 q) (Y1 q) (X2 q) (Y2 q) then (0 : EReal) else lv q :=
  supp_apply _ _ _ _ _ (X1 p) (Y1 p) (X2 p) (Y2 p) ((X2 p - X1 p) * (Y2 p - Y1 p)) h.x1 h.y1 h.x2 h.y2
    (fun i => by show ((w.a.x2 i : EReal) - w.a.x1 i) * (w.a.y2 i - w.a.y1 i) = _; rw [h.x1, h.y1, h.x2, h.y2]) X1 Y1 X2 Y2 _ lv q

theorem half : Ideal.ofBits .f32 0x3F000000#32 < 1 ∧ (0 : EReal) < Ideal.ofBits .f32 0x3F000000#32 := by
  constructor
  · simp [Ideal.ofBits, Ideal.ieee]
    norm_cast
    norm_num
  · simp [Ideal.ofBits, Ideal.ieee]
    rw [← EReal.coe_mul]
    exact EReal.coe_pos.mpr (by norm_num)

theorem keep_one (acc r : Row Ideal) (h : ∀ i, acc i = (1 : EReal)) : keep acc r = r := funext fun i => by
  have e : keep acc r i = if BitVec.ofBool (decide (Ideal.ofBits .f32 0x3F000000#32 < acc i)) = 1#1 then r i else (z1 (F := Ideal)) i := rfl
  rw [e, ite_ofBool, h, if_pos half.1]

theorem keep_zero (acc r : Row Ideal) (h : ∀ i, acc i = (0 : EReal)) (i : S1x128.Idx) : keep acc r i = (0 : EReal) := by
  have e : keep acc r i = if BitVec.ofBool (decide (Ideal.ofBits .f32 0x3F000000#32 < acc i)) = 1#1 then r i else Ideal.ofBits .f32 0x00000000#32 := rfl
  rw [e, ite_ofBool, h, if_neg (not_lt.mpr half.2.le), Ideal.ofBits_zero_f32]

theorem keepBit_one (acc : Row Ideal) (h : ∀ i, acc i = (1 : EReal)) : keepBit acc = 1#1 := by
  obtain rfl : acc = fun _ => (1 : EReal) := funext h
  have e : keepBit (F := Ideal) (fun _ => (1 : EReal)) = BitVec.ofBool (decide (Ideal.ofBits .f32 0x3F000000#32 < (1 : EReal))) := rfl
  rw [e, one_of_ofBool]; exact half.1

theorem keepBit_zero (acc : Row Ideal) (h : ∀ i, acc i = (0 : EReal)) : keepBit acc = 0#1 := by
  obtain rfl : acc = fun _ => (0 : EReal) := funext h
  have e : keepBit (F := Ideal) (fun _ => (0 : EReal)) = BitVec.ofBool (decide (Ideal.ofBits .f32 0x3F000000#32 < (0 : EReal))) := rfl
  rw [e, decide_eq_false (not_lt.mpr half.2.le)]; rfl

/-- The second pick, kept, strikes as its box; not kept, it strikes nothing. -/
theorem struck2_kept (w : Found Ideal) (p : S160x128.Idx) (h : Holds X1 Y1 X2 Y2 L w.b p) (hk : ∀ i, w.acc i = (1 : EReal)) (lv : V2 Ideal) (q : S160x128.Idx) :
    struck2 w X1 Y1 X2 Y2 (areaP X1 Y1 X2 Y2) lv q
      = if thr < iou2 (X1 p) (Y1 p) (X2 p) (Y2 p) (X1 q) (Y1 q) (X2 q) (Y2 q) then (0 : EReal) else lv q := by
  unfold struck2
  simp only [keep_one w.acc _ hk]
  exact struck1_apply X1 Y1 X2 Y2 L ⟨w.b, w.b, w.acc⟩ p h lv q

theorem struck2_dropped (w : Found Ideal) (hk : ∀ i, w.acc i = (0 : EReal)) (lv : V2 Ideal) :
    struck2 w X1 Y1 X2 Y2 (areaP X1 Y1 X2 Y2) lv = lv := funext fun q => by
  refine (supp_apply _ _ _ _ _ 0 0 0 0 0 (keep_zero _ _ hk) (keep_zero _ _ hk) (keep_zero _ _ hk) (keep_zero _ _ hk) (keep_zero _ _ hk) X1 Y1 X2 Y2 _ lv q).trans ?_
  rw [if_neg (iouA_zero _ _ _ _ _)]

/-- Striking leaves a plane of zeros as it is. -/
theorem supp_zero (b1 b2 b3 b4 ba : Row Ideal) (x1 y1 x2 y2 ar lv : V2 Ideal) (h : ∀ q, lv q = (0 : EReal)) (q : S160x128.Idx) :
    supp b1 b2 b3 b4 ba x1 y1 x2 y2 ar lv q = (0 : EReal) := by
  obtain ⟨ρ, c, rfl⟩ := pp_surj q
  obtain ⟨k, r, rfl⟩ := rw'_surj ρ
  rw [← rd_apply (supp b1 b2 b3 b4 ba x1 y1 x2 y2 ar lv)]
  unfold supp
  rw [rd_planeOf]
  unfold suppC
  simp only [shapeCast_self]
  unfold select Scalar.select
  split
  · exact Ideal.ofBits_zero_f32
  · rw [rd_apply, h]
end

/-- An output row of a box: its corners and its score where it scores, zeros elsewhere. -/
def entry (m x1 y1 x2 y2 : EReal) (l : Fin 128) : EReal :=
  if 0 < m then (if l.val = 0 then x1 else if l.val = 1 then y1 else if l.val = 2 then x2 else if l.val = 3 then y2 else if l.val = 4 then m else 0) else 0

theorem entryRow_apply (w : Pick Ideal) (m x1 y1 x2 y2 : EReal) (h0 : ∀ i, w.m i = m) (h1 : ∀ i, w.x1 i = x1) (h2 : ∀ i, w.y1 i = y1)
    (h3 : ∀ i, w.x2 i = x2) (h4 : ∀ i, w.y2 i = y2) (l : Fin 128) : entryRow lane w (lix l) = entry m x1 y1 x2 y2 l := by
  have at' : ∀ (n : ℕ) (r : Row Ideal), n < 128 → (select (cmpi .eq lane (broadcast S1x128 (BitVec.ofNat 32 n))) r (z1 (F := Ideal))) (lix l) = if l.val = n then r (lix l) else (0 : EReal) := by
    intro n r hn
    have e : (select (cmpi .eq lane (broadcast S1x128 (BitVec.ofNat 32 n))) r (z1 (F := Ideal))) (lix l)
      = if BitVec.ofBool (decide (lane (lix l) = BitVec.ofNat 32 n)) = 1#1 then r (lix l) else Ideal.ofBits .f32 0x00000000#32 := rfl
    rw [e, ite_ofBool, lane_apply, Ideal.ofBits_zero_f32]
    have : BitVec.ofNat 32 l.val = BitVec.ofNat 32 n ↔ l.val = n := by
      constructor
      · intro h
        have := congrArg BitVec.toNat h
        rw [BitVec.toNat_ofNat, BitVec.toNat_ofNat] at this
        have := l.isLt
        omega
      · rintro rfl; rfl
    simp only [this]
  have e : entryRow lane w (lix l) = if BitVec.ofBool (decide (Ideal.ofBits .f32 0x00000000#32 < w.m (lix l))) = 1#1 then
      ((((select (cmpi .eq lane (broadcast S1x128 (BitVec.ofNat 32 0))) w.x1 (z1 (F := Ideal))) (lix l) + (select (cmpi .eq lane (broadcast S1x128 (BitVec.ofNat 32 1))) w.y1 (z1 (F := Ideal))) (lix l) : EReal)
        + (select (cmpi .eq lane (broadcast S1x128 (BitVec.ofNat 32 2))) w.x2 (z1 (F := Ideal))) (lix l) : EReal)
        + (select (cmpi .eq lane (broadcast S1x128 (BitVec.ofNat 32 3))) w.y2 (z1 (F := Ideal))) (lix l) : EReal)
        + (select (cmpi .eq lane (broadcast S1x128 (BitVec.ofNat 32 4))) w.m (z1 (F := Ideal))) (lix l) else Ideal.ofBits .f32 0x00000000#32 := rfl
  rw [e, ite_ofBool, at' 0 _ (by omega), at' 1 _ (by omega), at' 2 _ (by omega), at' 3 _ (by omega), at' 4 _ (by omega), h0, h1, h2, h3, h4, Ideal.ofBits_zero_f32]
  unfold entry
  by_cases c0 : l.val = 0
  · simp [c0]
  by_cases c1 : l.val = 1
  · simp [c1]
  by_cases c2 : l.val = 2
  · simp [c2]
  by_cases c3 : l.val = 3
  · simp [c3]
  simp [c0, c1, c2, c3]

theorem entryRow_zero (w : Pick Ideal) (h0 : ∀ i, w.m i = (0 : EReal)) (l : Fin 128) : entryRow lane w (lix l) = (0 : EReal) := by
  unfold entryRow select Scalar.select
  rw [if_neg]
  · exact Ideal.ofBits_zero_f32
  · show ¬ BitVec.ofBool (decide (Ideal.ofBits .f32 0x00000000#32 < w.m (lix l))) = 1#1
    rw [one_of_ofBool, h0, Ideal.ofBits_zero_f32]
    exact lt_irrefl _

end Cert.Proof

end
-- ==== Proof.Greedy.lean ====
module

public import proofs.«01_k».proof.Proof.Strike
public import proofs.«01_k».proof.Proof.Body

@[expose] public section

noncomputable section

namespace Cert.Proof

open Cert.KernelIdeal Cert.KernelIdeal.Gen

open Idealize.ShloMosaic

/-! The kernel's loop, two boxes a trip, against the selection one box a step. -/

/-- The box a place of the planes holds, of the numbers below 20480; a plane of the 20000 boxes' values. -/
def place (p : S160x128.Idx) : ℕ := (127 - (p 1).val) * 160 + (p 0).val
def pl (v : Fin 20000 → EReal) : V2 Ideal := fun p => if h : place p < 20000 then v ⟨place p, h⟩ else (0 : EReal)

theorem place_inj {p q : S160x128.Idx} (h : place p = place q) : p = q := by
  obtain ⟨ρ, c, rfl⟩ := pp_surj p
  obtain ⟨ρ', c', rfl⟩ := pp_surj q
  have h : (127 - c.val) * 160 + ρ.val = (127 - c'.val) * 160 + ρ'.val := h
  have := c.isLt; have := c'.isLt; have := ρ.isLt; have := ρ'.isLt
  obtain rfl : c = c' := Fin.ext (by omega)
  obtain rfl : ρ = ρ' := Fin.ext (by omega)
  rfl

theorem exists_place (q : Fin 20000) : ∃ p, place p = q.val :=
  ⟨pp ⟨q.val % 160, Nat.mod_lt _ (by decide)⟩ ⟨127 - q.val / 160, by omega⟩, by
    show (127 - (127 - q.val / 160)) * 160 + q.val % 160 = q.val
    have := q.isLt
    omega⟩

theorem pl_of (v : Fin 20000 → EReal) (p : S160x128.Idx) (h : place p < 20000) : pl v p = v ⟨place p, h⟩ := dif_pos h
theorem pl_pad (v : Fin 20000 → EReal) (p : S160x128.Idx) (h : ¬ place p < 20000) : pl v p = (0 : EReal) := dif_neg h

theorem pl_at (v : Fin 20000 → EReal) (q : Fin 20000) : ∃ p, place p = q.val ∧ pl v p = v q := by
  obtain ⟨p, hp⟩ := exists_place q
  refine ⟨p, hp, ?_⟩
  rw [pl_of v p (by rw [hp]; exact q.isLt)]
  congr 1
  exact Fin.ext hp

variable (B1 B2 B3 B4 : Fin 20000 → EReal)

/-- The overlap of two boxes over their union. -/
def iou (a b : Fin 20000) : EReal := iou2 (B1 a) (B2 a) (B3 a) (B4 a) (B1 b) (B2 b) (B3 b) (B4 b)

/-- The selection one box a step: the scores `S k` before step `k`, and the row `R k` of its box. -/
structure Selects (S : ℕ → Fin 20000 → EReal) (R : ℕ → Fin 128 → EReal) : Prop where
  step : ∀ k, ∃ j, (∀ q, S k q ≤ S k j) ∧ (∀ q, S (k + 1) q = if q = j then 0 else if thr < iou B1 B2 B3 B4 j q then 0 else S k q)
    ∧ ∀ l, R k l = entry (S k j) (B1 j) (B2 j) (B3 j) (B4 j) l
  nonneg : ∀ q, 0 ≤ S 0 q
  distinct : ∀ q q', S 0 q ≠ 0 → S 0 q = S 0 q' → q = q'
  self : ∀ q, S 0 q ≠ 0 → thr < iou B1 B2 B3 B4 q q

variable {B1 B2 B3 B4} {S : ℕ → Fin 20000 → EReal} {R : ℕ → Fin 128 → EReal} (hS : Selects B1 B2 B3 B4 S R)

include hS

theorem Selects.orig (k : ℕ) (q : Fin 20000) : S k q = 0 ∨ S k q = S 0 q := by
  induction k with
  | zero => exact .inr rfl
  | succ k ih =>
    obtain ⟨j, -, h, -⟩ := hS.step k
    rw [h]
    split
    · exact .inl rfl
    split
    · exact .inl rfl
    exact ih

theorem Selects.nonneg' (k : ℕ) (q : Fin 20000) : 0 ≤ S k q := by
  rcases hS.orig k q with h | h
  · rw [h]
  · rw [h]; exact hS.nonneg q

theorem Selects.zero (k : ℕ) (h : ∀ q, S k q = 0) : (∀ q, S (k + 1) q = 0) ∧ ∀ l, R k l = 0 := by
  obtain ⟨j, -, h1, h2⟩ := hS.step k
  refine ⟨fun q => ?_, fun l => ?_⟩
  · rw [h1, h]; simp
  · rw [h2, h]; simp [entry]

theorem Selects.top (k : ℕ) (q : Fin 20000) (h : ∀ q', S k q' ≤ S k q) (hp : 0 < S k q) :
    (∀ q', S (k + 1) q' = if thr < iou B1 B2 B3 B4 q q' then 0 else S k q') ∧ S (k + 1) q = 0
      ∧ ∀ l, R k l = entry (S k q) (B1 q) (B2 q) (B3 q) (B4 q) l := by
  obtain ⟨j, hj, h1, h2⟩ := hS.step k
  have e : S k j = S k q := le_antisymm (h j) (hj q)
  have o1 := (hS.orig k q).resolve_left hp.ne'
  have o2 := (hS.orig k j).resolve_left (by rw [e]; exact hp.ne')
  have hq : S 0 q ≠ 0 := by rw [← o1]; exact hp.ne'
  obtain rfl : q = j := hS.distinct q j hq (by rw [← o1, ← o2, e])
  refine ⟨fun q' => ?_, by rw [h1, if_pos rfl], h2⟩
  rw [h1]
  by_cases hq' : q' = q
  · subst hq'
    rw [if_pos rfl, if_pos (hS.self q' hq)]
  · rw [if_neg hq']

/-- What striking leaves at a place is what the step leaves there. -/
theorem Selects.plane (k : ℕ) (p : S160x128.Idx) (hp : place p < 20000) (h : ∀ q', S (k + 1) q' = if thr < iou B1 B2 B3 B4 ⟨place p, hp⟩ q' then 0 else S k q') (q : S160x128.Idx) :
    (if thr < iou2 (pl B1 p) (pl B2 p) (pl B3 p) (pl B4 p) (pl B1 q) (pl B2 q) (pl B3 q) (pl B4 q) then (0 : EReal) else pl (S k) q) = pl (S (k + 1)) q := by
  by_cases hq : place q < 20000
  · simp only [pl_of _ p hp, pl_of _ q hq, h]
    rfl
  · rw [pl_pad (S k) q hq, pl_pad (S (k + 1)) q hq]; simp

/-- One trip of the loop: its rows are the next rows, and it leaves the scores after them. -/
theorem Selects.trip (k : ℕ) (w : Found Ideal) (lv : V2 Ideal) (p : S160x128.Idx) (hw : Finds (pl B1) (pl B2) (pl B3) (pl B4) (pl (S k)) w p)
    (hlv : lv = struck1 w (pl B1) (pl B2) (pl B3) (pl B4) (areaP (pl B1) (pl B2) (pl B3) (pl B4)) (pl (S k))) :
    struck2 w (pl B1) (pl B2) (pl B3) (pl B4) (areaP (pl B1) (pl B2) (pl B3) (pl B4)) lv = pl (S (k + 1 + (keepBit w.acc).toNat))
      ∧ (∀ l, entryRow lane w.a (lix l) = R k l) ∧ (keepBit w.acc = 1#1 → ∀ l, entryRow lane w.b (lix l) = R (k + 1) l) := by
  have hall : ∀ q, S k q ≤ pl (S k) p := fun q => by
    obtain ⟨p', -, e⟩ := pl_at (S k) q
    rw [← e]; exact hw.top p'
  have hbit : (keepBit w.acc).toNat = 0 ∨ (keepBit w.acc).toNat = 1 := by have := keepBit_le w.acc; omega
  have zeroPl : ∀ m, (∀ q, S m q = 0) → pl (S m) = fun _ => (0 : EReal) := fun m h => funext fun q => by
    unfold pl; split
    · exact h _
    · rfl
  -- nothing is left after the first box: whatever the second test says, zeros stay zeros
  have rest : (∀ q, S (k + 1) q = 0) → (∀ q, lv q = (0 : EReal)) → (∀ i, w.b.m i = (0 : EReal)) →
      struck2 w (pl B1) (pl B2) (pl B3) (pl B4) (areaP (pl B1) (pl B2) (pl B3) (pl B4)) lv = pl (S (k + 1 + (keepBit w.acc).toNat))
        ∧ (keepBit w.acc = 1#1 → ∀ l, entryRow lane w.b (lix l) = R (k + 1) l) := by
    intro h1 hl hb
    obtain ⟨h2, h3⟩ := hS.zero (k + 1) h1
    refine ⟨?_, fun _ l => (entryRow_zero _ hb l).trans (h3 l).symm⟩
    rw [zeroPl _ (by rcases hbit with e | e <;> rw [e]; exacts [h1, h2])]
    exact funext fun q => supp_zero _ _ _ _ _ _ _ _ _ _ _ hl q
  obtain ⟨b, hbm, hb0, hbr, hb⟩ := hw.bconst
  by_cases hpos : (0 : EReal) < pl (S k) p
  · have hp : place p < 20000 := by
      by_contra h
      rw [pl_pad _ _ h] at hpos
      exact lt_irrefl _ hpos
    have ep : ∀ v : Fin 20000 → EReal, pl v p = v ⟨place p, hp⟩ := fun v => pl_of v p hp
    obtain ⟨h1, hz, h2⟩ := hS.top k ⟨place p, hp⟩ (fun q' => (hall q').trans_eq (ep _)) (lt_of_lt_of_eq hpos (ep _))
    have elv : lv = pl (S (k + 1)) := by
      rw [hlv]
      exact funext fun q => (struck1_apply _ _ _ _ _ w p hw.a _ q).trans (hS.plane k p hp h1 q)
    have ha : ∀ l, entryRow lane w.a (lix l) = R k l := fun l =>
      (entryRow_apply w.a _ _ _ _ _ hw.a.m hw.a.x1 hw.a.y1 hw.a.x2 hw.a.y2 l).trans (by rw [h2]; simp only [ep])
    by_cases hbp : 0 < b
    · obtain ⟨p2, hne, hLb, hH, hacc⟩ := hb hbp
      by_cases ht : thr < iou2 (pl B1 p) (pl B2 p) (pl B3 p) (pl B4 p) (pl B1 p2) (pl B2 p2) (pl B3 p2) (pl B4 p2)
      · have h0 : ∀ i, w.acc i = (0 : EReal) := fun i => (hacc i).trans (if_pos ht)
        have hk := keepBit_zero w.acc h0
        refine ⟨?_, ha, fun e => ?_⟩
        · rw [struck2_dropped _ _ _ _ w h0, hk, elv]; rfl
        · rw [hk] at e; exact absurd e (by decide)
      · have h0 : ∀ i, w.acc i = (1 : EReal) := fun i => (hacc i).trans (if_neg ht)
        have hk := keepBit_one w.acc h0
        have hp2 : place p2 < 20000 := by
          by_contra h
          rw [pl_pad _ _ h] at hLb
          exact lt_irrefl _ (hLb ▸ hbp)
        have e2 : ∀ v : Fin 20000 → EReal, pl v p2 = v ⟨place p2, hp2⟩ := fun v => pl_of v p2 hp2
        have eS : S (k + 1) ⟨place p2, hp2⟩ = b := by
          rw [h1, ← hLb, e2]
          simp only [ep, e2] at ht
          exact if_neg ht
        obtain ⟨g1, -, g2⟩ := hS.top (k + 1) ⟨place p2, hp2⟩ (fun q' => by
          rw [eS]
          by_cases hq : q' = ⟨place p, hp⟩
          · rw [hq, hz]; exact hb0
          · rw [h1]
            split
            · exact hb0
            · obtain ⟨p', hp', e⟩ := pl_at (S k) q'
              rw [← e]
              refine hbr p' (fun e' => hq (Fin.ext ?_))
              rw [← hp', e']) (by rw [eS]; exact hbp)
        refine ⟨?_, ha, fun _ l => ?_⟩
        · rw [hk, elv]
          exact funext fun q => (struck2_kept _ _ _ _ _ w p2 hH h0 _ q).trans (hS.plane (k + 1) p2 hp2 g1 q)
        · refine (entryRow_apply w.b _ _ _ _ _ hH.m hH.x1 hH.y1 hH.x2 hH.y2 l).trans ?_
          rw [g2, eS, hLb]; simp only [e2]
    · obtain rfl : b = 0 := le_antisymm (not_lt.mp hbp) hb0
      have hs1 : ∀ q, S (k + 1) q = 0 := fun q => by
        by_cases hq : q = ⟨place p, hp⟩
        · rw [hq, hz]
        · rw [h1]
          split
          · rfl
          · obtain ⟨p', hp', e⟩ := pl_at (S k) q
            refine le_antisymm ?_ (hS.nonneg' k q)
            rw [← e]
            refine hbr p' (fun e' => hq (Fin.ext ?_))
            rw [← hp', e']
      obtain ⟨r1, r2⟩ := rest hs1 (fun q => by rw [elv, zeroPl _ hs1]) hbm
      exact ⟨r1, ha, r2⟩
  · have hs0 : ∀ q, S k q = 0 := fun q => le_antisymm ((hall q).trans (not_lt.mp hpos)) (hS.nonneg' k q)
    obtain ⟨hs1, hr⟩ := hS.zero k hs0
    have hz0 := zeroPl k hs0
    have hb0' : b = 0 := by
      by_contra hne
      obtain ⟨q, -, e, -⟩ := hb (lt_of_le_of_ne hb0 (Ne.symm hne))
      rw [hz0] at e
      exact hne e.symm
    obtain ⟨r1, r2⟩ := rest hs1 (fun q => by
      rw [hlv, hz0]
      exact supp_zero _ _ _ _ _ _ _ _ _ _ _ (fun _ => rfl) q) (fun i => (hbm i).trans hb0')
    exact ⟨r1, fun l => (entryRow_zero _ (fun i => (hw.a.m i).trans (by rw [hz0])) l).trans (hr l).symm, r2⟩

/-- The loop's rows are the selection's. -/
theorem Selects.loop : ∀ (n k : ℕ), 300 ≤ k + n → ∀ (w : Found Ideal) (lv : V2 Ideal) (out : FVec Ideal S300x128 .f32),
    w = search lane (pl B1) (pl B2) (pl B3) (pl B4) flatP (pl (S k)) →
    lv = struck1 w (pl B1) (pl B2) (pl B3) (pl B4) (areaP (pl B1) (pl B2) (pl B3) (pl B4)) (pl (S k)) →
    (∀ i : S300x128.Idx, (i 0).val < k → out i = R (i 0).val (i 1)) →
    ∀ i : S300x128.Idx, (Cert.Proof.loop (pl B1) (pl B2) (pl B3) (pl B4) (areaP (pl B1) (pl B2) (pl B3) (pl B4)) flatP lane n k w lv out).1 i = R (i 0).val (i 1) := by
  intro n
  induction n with
  | zero =>
    intro k hk w lv out _ _ h i
    exact h i (Nat.lt_of_lt_of_le (i 0).isLt hk)
  | succ n ih =>
    intro k hk w lv out hw hlv h i
    by_cases hlt : k < 300
    · rw [Cert.Proof.loop, dif_pos hlt]
      obtain ⟨p, hp⟩ := search_finds (pl B1) (pl B2) (pl B3) (pl B4) (pl (S k))
      rw [← hw] at hp
      obtain ⟨t1, t2, t3⟩ := hS.trip k w lv p hp hlv
      rw [t1]
      refine ih (k + 1 + (keepBit w.acc).toNat) (by omega) _ _ _ rfl rfl ?_ i
      intro i' hi'
      rw [stepOut_apply lane k hlt]
      have hkb := keepBit_le w.acc
      split
      · next hc => rw [t3 hc.1, hc.2.2]
      · next hn =>
        split
        · next he => rw [t2, he]
        · next hne =>
          refine h i' ?_
          by_contra hge
          have hb : keepBit w.acc = 1#1 := by
            apply BitVec.eq_of_toNat_eq
            show (keepBit w.acc).toNat = 1
            omega
          have : (i' 0).val < 300 := (i' 0).isLt
          exact hn ⟨hb, by omega, by omega⟩
    · rw [Cert.Proof.loop, dif_neg hlt]
      exact h i (by have : (i 0).val < 300 := (i 0).isLt; omega)

end Cert.Proof

end
-- ==== Proof.Planes.lean ====
module

public import proofs.«01_k».proof.Proof.Greedy
public import proofs.«01_k».proof.Proof.Run
public import Idealize.ShloMosaic.Lib.KernelVsHost
public import Idealize.ShloMosaic.Lib.Pointwise.Reshape
public import Idealize.ShloMosaic.Lib.Pipeline.Value

@[expose] public section

noncomputable section

namespace Cert.Proof

open Cert.KernelIdeal Cert.KernelIdeal.Gen

open Idealize.ShloMosaic
open Idealize.ShloMosaic.TcCoe

/-! The planes the kernel is handed, read from the arguments. -/

variable (m : (b : Loc nD τ sig) → Buf (Elt Ideal) b) (c : Dev nD)

/-- A plane of a vector of 20480: reshaped, its rows reversed, transposed. -/
theorem plane_read (v : S20480.Idx → EReal) (p : S160x128.Idx) :
    transpose S160x128 [1, 0] (Host.reverse [0] (shapeCast S128x160 v shapeCasts_S20480_S128x160)) transposes_S128x160_S160x128_1_0 p
      = v (ValueIdx.ix1 (⟨place p, by
          have h1 : (p 1).val < 128 := (p 1).isLt
          have h0 : (p 0).val < 160 := (p 0).isLt
          show (127 - (p 1).val) * 160 + (p 0).val < 20480
          omega⟩ : Fin 20480)) := by
  have h1 : (p 1).val < 128 := (p 1).isLt
  have h0 : (p 0).val < 160 := (p 0).isLt
  rw [transpose_apply [1, 0] _ transposes_S128x160_S160x128_1_0 p (ValueIdx.ix2 (⟨(p 1).val, h1⟩ : Fin 128) (⟨(p 0).val, h0⟩ : Fin 160))
    (fun b => by fin_cases b <;> rfl)]
  have e : Host.reverse [0] (shapeCast S128x160 v shapeCasts_S20480_S128x160) (ValueIdx.ix2 (⟨(p 1).val, h1⟩ : Fin 128) (⟨(p 0).val, h0⟩ : Fin 160))
      = shapeCast S128x160 v shapeCasts_S20480_S128x160 (ValueIdx.ix2 (⟨127 - (p 1).val, by omega⟩ : Fin 128) (⟨(p 0).val, h0⟩ : Fin 160)) := by
    refine congrArg (shapeCast S128x160 v shapeCasts_S20480_S128x160) (funext fun a => ?_)
    match a with
    | 0 => exact (if_pos (by decide)).trans (Fin.ext (by show 128 - ((p 1).val + 1) = 127 - (p 1).val; omega))
    | 1 => exact if_neg (by decide)
  rw [e]
  refine shapeCast_apply v shapeCasts_S20480_S128x160 _ _ ?_
  rw [rowMajor_val1, rowMajor_val2 _ 160 rfl]
  rfl

/-- The scores' plane. -/
theorem scores_read (s : S20000.Idx → EReal) (z : S_.Idx → EReal) (hz : ∀ i, z i = 0) (p : S160x128.Idx) :
    transpose S160x128 [1, 0] (Host.reverse [0] (shapeCast S128x160 (pad S20480 ![0] ![480] ![0] s z pads_S20000_S20480_04800 h_S_) shapeCasts_S20480_S128x160)) transposes_S128x160_S160x128_1_0 p
      = pl (fun q => s (ValueIdx.ix1 q)) p := by
  rw [plane_read]
  by_cases h : place p < 20000
  · rw [pl_of _ p h]
    refine pad_apply_of_inside ![0] ![480] ![0] s z pads_S20000_S20480_04800 h_S_ _ (ValueIdx.ix1 (⟨place p, h⟩ : Fin 20000)) (fun a => ?_)
    match a with
    | 0 => show place p = 0 + place p * (0 + 1); omega
  · rw [pl_pad _ p h]
    refine (pad_apply_of_not_inside ![0] ![480] ![0] s z pads_S20000_S20480_04800 h_S_ _ 0 ?_).trans (hz _)
    intro h'
    have : (place p - 0) / (0 + 1) < 20000 := h'.2.2
    omega

/-- A coordinate's plane. -/
theorem coord_read (b : S20000x4.Idx → EReal) (z : S_.Idx → EReal) (hz : ∀ i, z i = 0) (k : ℕ) (hk : k < 4) (hs : S20480x4.Slices ![0, k] S20480x1) (p : S160x128.Idx) :
    transpose S160x128 [1, 0] (Host.reverse [0] (shapeCast S128x160 (shapeCast S20480
        (extractStridedSlice S20480x1 ![0, k] (pad S20480x4 ![0, 0] ![480, 0] ![0, 0] b z pads_S20000x4_S20480x4_04800_000 h_S_) hs)
        shapeCasts_S20480x1_S20480) shapeCasts_S20480_S128x160)) transposes_S128x160_S160x128_1_0 p
      = pl (fun q => b (ValueIdx.ix2 q (⟨k, hk⟩ : Fin 4))) p := by
  rw [plane_read]
  have hp : place p < 20480 := by
    have h1 : (p 1).val < 128 := (p 1).isLt
    have h0 : (p 0).val < 160 := (p 0).isLt
    show (127 - (p 1).val) * 160 + (p 0).val < 20480
    omega
  rw [shapeCast_apply _ shapeCasts_S20480x1_S20480 _ (ValueIdx.ix2 (⟨place p, hp⟩ : Fin 20480) (0 : Fin 1)) (by
      rw [rowMajor_val1, rowMajor_val2 _ 1 rfl]; show place p * 1 + 0 = place p; omega),
    extractStridedSlice_apply ![0, k] _ hs _ (ValueIdx.ix2 (⟨place p, hp⟩ : Fin 20480) (⟨k, hk⟩ : Fin 4)) (fun a => by
      match a with
      | 0 => show place p = 0 + place p; omega
      | 1 => show k = k + 0; omega)]
  by_cases h : place p < 20000
  · rw [pl_of _ p h]
    refine pad_apply_of_inside ![0, 0] ![480, 0] ![0, 0] b z pads_S20000x4_S20480x4_04800_000 h_S_ _ (ValueIdx.ix2 (⟨place p, h⟩ : Fin 20000) (⟨k, hk⟩ : Fin 4)) (fun a => ?_)
    match a with
    | 0 => show place p = 0 + place p * (0 + 1); omega
    | 1 => show k = 0 + k * (0 + 1); omega
  · rw [pl_pad _ p h]
    refine (pad_apply_of_not_inside ![0, 0] ![480, 0] ![0, 0] b z pads_S20000x4_S20480x4_04800_000 h_S_ _ 0 ?_).trans (hz _)
    intro h'
    have : (place p - 0) / (0 + 1) < 20000 := h'.2.2
    omega

/-- The boxes' coordinates and the scores of the launch. -/
def boxes (k : Fin 4) (q : Fin 20000) : EReal := (m ((c : Thread nD τ).loc main_arg0) : S20000x4.Idx → EReal) (ValueIdx.ix2 q k)
def scores (q : Fin 20000) : EReal := (m ((c : Thread nD τ).loc main_arg1) : S20000.Idx → EReal) (ValueIdx.ix1 q)

theorem zero_i (i : S_.Idx) : (sitofp .f32 (constantI S_ 32 0#32) : FVec Ideal S_ .f32) i = (0 : EReal) := by
  show (((0#32 : BitVec 32).toInt : ℝ) : EReal) = 0
  simp

theorem px1_eq : px1 m c = pl (boxes m c 0) := by
  have hz' : (fun a => win0_0.index t0_0 a * main_v5.ty.shape.size a) = fun _ => 0 := funext fun a => by fin_cases a <;> decide +kernel
  refine (Memref.read_access_unit_zero (Elt Ideal) main_v5 hz' (fun a => by rw [congrFun hz' a]; simp) _).trans ?_
  refine Eq.trans ?_ (funext fun p => coord_read (m ((c : Thread nD τ).loc main_arg0)) (sitofp .f32 (constantI S_ 32 0#32) : FVec Ideal S_ .f32) zero_i 0 (by omega) slices_S20480x4_S20480x1_0_0 p)
  show V m c main_v5 = _
  unfold V V0
  simp only [before, hostOps0, hostOps0_1, hostOps0_2, hostOps0_3, hostOps0_4, List.flatten_cons, List.flatten_nil, List.append_nil, List.cons_append, List.nil_append]
  after_results_simp
  rfl

theorem py1_eq : py1 m c = pl (boxes m c 1) := by
  have hz' : (fun a => win0_1.index t0_0 a * main_v10.ty.shape.size a) = fun _ => 0 := funext fun a => by fin_cases a <;> decide +kernel
  refine (Memref.read_access_unit_zero (Elt Ideal) main_v10 hz' (fun a => by rw [congrFun hz' a]; simp) _).trans ?_
  refine Eq.trans ?_ (funext fun p => coord_read (m ((c : Thread nD τ).loc main_arg0)) (sitofp .f32 (constantI S_ 32 0#32) : FVec Ideal S_ .f32) zero_i 1 (by omega) slices_S20480x4_S20480x1_0_1 p)
  show V m c main_v10 = _
  unfold V V0
  simp only [before, hostOps0, hostOps0_1, hostOps0_2, hostOps0_3, hostOps0_4, List.flatten_cons, List.flatten_nil, List.append_nil, List.cons_append, List.nil_append]
  after_results_simp
  rfl

theorem px2_eq : px2 m c = pl (boxes m c 2) := by
  have hz' : (fun a => win0_2.index t0_0 a * main_v15.ty.shape.size a) = fun _ => 0 := funext fun a => by fin_cases a <;> decide +kernel
  refine (Memref.read_access_unit_zero (Elt Ideal) main_v15 hz' (fun a => by rw [congrFun hz' a]; simp) _).trans ?_
  refine Eq.trans ?_ (funext fun p => coord_read (m ((c : Thread nD τ).loc main_arg0)) (sitofp .f32 (constantI S_ 32 0#32) : FVec Ideal S_ .f32) zero_i 2 (by omega) slices_S20480x4_S20480x1_0_2 p)
  show V m c main_v15 = _
  unfold V V0
  simp only [before, hostOps0, hostOps0_1, hostOps0_2, hostOps0_3, hostOps0_4, List.flatten_cons, List.flatten_nil, List.append_nil, List.cons_append, List.nil_append]
  after_results_simp
  rfl

theorem py2_eq : py2 m c = pl (boxes m c 3) := by
  have hz' : (fun a => win0_3.index t0_0 a * main_v20.ty.shape.size a) = fun _ => 0 := funext fun a => by fin_cases a <;> decide +kernel
  refine (Memref.read_access_unit_zero (Elt Ideal) main_v20 hz' (fun a => by rw [congrFun hz' a]; simp) _).trans ?_
  refine Eq.trans ?_ (funext fun p => coord_read (m ((c : Thread nD τ).loc main_arg0)) (sitofp .f32 (constantI S_ 32 0#32) : FVec Ideal S_ .f32) zero_i 3 (by omega) slices_S20480x4_S20480x1_0_3 p)
  show V m c main_v20 = _
  unfold V V0
  simp only [before, hostOps0, hostOps0_1, hostOps0_2, hostOps0_3, hostOps0_4, List.flatten_cons, List.flatten_nil, List.append_nil, List.cons_append, List.nil_append]
  after_results_simp
  rfl

theorem psc_eq : psc m c = pl (scores m c) := by
  have hz' : (fun a => win0_4.index t0_0 a * main_v24.ty.shape.size a) = fun _ => 0 := funext fun a => by fin_cases a <;> decide +kernel
  refine (Memref.read_access_unit_zero (Elt Ideal) main_v24 hz' (fun a => by rw [congrFun hz' a]; simp) _).trans ?_
  refine Eq.trans ?_ (funext fun p => scores_read (m ((c : Thread nD τ).loc main_arg1)) (sitofp .f32 (constantI S_ 32 0#32) : FVec Ideal S_ .f32) zero_i p)
  show V m c main_v24 = _
  unfold V V0
  simp only [before, hostOps0, hostOps0_1, hostOps0_2, hostOps0_3, hostOps0_4, List.flatten_cons, List.flatten_nil, List.append_nil, List.cons_append, List.nil_append]
  after_results_simp
  rfl

/-- A score, zero below the threshold. -/
abbrev conf : EReal := Ideal.ofBits .f32 0x3E800000#32
def floored (s : Fin 20000 → EReal) (q : Fin 20000) : EReal := if conf ≤ s q then s q else 0

theorem floorP_pl (s : Fin 20000 → EReal) : floorP (pl s) = pl (floored s) := funext fun p => by
  have e : floorP (pl s) p = if BitVec.ofBool (decide (conf ≤ pl s p)) = 1#1 then pl s p else Ideal.ofBits .f32 0x00000000#32 := rfl
  rw [e, ite_ofBool, Ideal.ofBits_zero_f32]
  by_cases h : place p < 20000
  · rw [pl_of s p h, pl_of _ p h]; rfl
  · rw [pl_pad s p h, pl_pad _ p h]; simp

/-- The kernel's result is the selection's rows. -/
theorem result_eq (S : ℕ → Fin 20000 → EReal) (R : ℕ → Fin 128 → EReal)
    (hS : Selects (boxes m c 0) (boxes m c 1) (boxes m c 2) (boxes m c 3) S R) (h0 : S 0 = floored (scores m c)) (i : Fin 300) (l : Fin 5) :
    result m c (ValueIdx.ix2 i l) = R i.val ⟨l.val, by omega⟩ := by
  unfold result
  rw [extractStridedSlice_apply ![0, 0] _ slices_S300x128_S300x5_0_0 _ (ValueIdx.ix2 i (⟨l.val, by omega⟩ : Fin 128)) (fun a => by
    match a with
    | 0 => show i.val = 0 + i.val; omega
    | 1 => show l.val = 0 + l.val; omega)]
  unfold outs nms found0
  rw [px1_eq, py1_eq, px2_eq, py2_eq, psc_eq, floorP_pl, ← h0]
  exact hS.loop 300 0 (by omega) _ _ _ rfl rfl (fun i h => absurd h (Nat.not_lt_zero _)) (ValueIdx.ix2 i (⟨l.val, by omega⟩ : Fin 128))

end Cert.Proof

end
-- ==== Proof.Step.lean ====
module

public import proofs.«01_k».proof.Proof.Greedy
public import proofs.«01_k».proof.Proof.Gen.ReferenceIdeal.Run
public import Idealize.ShloMosaic.Lib.Pointwise.Tactic
public import Idealize.ShloMosaic.Lib.Pointwise.Reshape
public import Idealize.ShloMosaic.Lib.Pointwise.Reduce
public import Idealize.ShloMosaic.Lib.Pointwise.ShapeOpsCore
public import Idealize.ShloMosaic.Lib.IdealHost
public import Idealize.ShloMosaic.Lib.Pipeline.Value

@[expose] public section

noncomputable section

namespace Cert.Proof

open Cert.ReferenceIdeal Cert.ReferenceIdeal.Gen Cert.ReferenceIdeal.Value

open Idealize.ShloMosaic

/-! One step of the reference: the best box, the scores after it, the row stored for it. -/

/-- What a choosing operation's fold returns: where it starts or one of the values, beyond none of them. -/
theorem fold_choice {N : ℕ} {α : Type} (o : α → α → α) [Std.Commutative o] [Std.Associative o] (R : α → α → Prop)
    (rfl' : ∀ a, R a a) (tr : ∀ a b c, R a b → R b c → R a c) (sel : ∀ a b, o a b = a ∨ o a b = b) (l : ∀ a b, R a (o a b))
    (r : ∀ a b, R b (o a b)) (a0 : α) (f : Fin N → α) (t : Finset (Fin N)) :
    (t.fold o a0 f = a0 ∨ ∃ k, t.fold o a0 f = f k) ∧ R a0 (t.fold o a0 f) ∧ ∀ k ∈ t, R (f k) (t.fold o a0 f) := by
  classical
  induction t using Finset.induction_on with
  | empty => exact ⟨.inl rfl, rfl' _, fun k h => absurd h (Finset.notMem_empty k)⟩
  | insert a t ha ih =>
    rw [Finset.fold_insert ha]
    refine ⟨?_, tr _ _ _ ih.2.1 (r _ _), fun k hk => ?_⟩
    · rcases sel (f a) (t.fold o a0 f) with h | h <;> rw [h]
      · exact .inr ⟨a, rfl⟩
      · exact ih.1
    · rcases Finset.mem_insert.mp hk with rfl | hk
      · exact l _ _
      · exact tr _ _ _ (ih.2.2 k hk) (r _ _)

abbrev zx : S_.Idx := Shape.Idx.first h_S_
theorem zx_all (i : S_.Idx) : i = zx := funext fun a => a.elim0

variable (b : FVec Ideal S20000x4 .f32) (s : FVec Ideal S20000 .f32) (W : FVec Ideal S4 .f32) (M : FVec Ideal S_ .f32) (idx : IVec S_ 32)

def bestOf : FVec Ideal S_ .f32 := Host.reduce FloatOps.maximumf s (constant S_ .f32 0xFF800000#32) reducesTo_S20000_S_d0 h_S_

def firstOf : IVec S_ 32 :=
  Host.reduce IntOp.minsi (select (cmpf .oeq s (broadcastInDim S20000 ![] bcast_S_S20000 M)) (iotaInDim S20000 32 0) (broadcastInDim S20000 ![] bcast_S_S20000 (id (constantI S_ 32 20000#32)))) (constantI S_ 32 2147483647#32) reducesTo_S20000_S_d0 h_S_

theorem bestOf_spec : ∃ j : Fin 20000, (∀ q : Fin 20000, (s (ValueIdx.ix1 q) : EReal) ≤ s (ValueIdx.ix1 j)) ∧ bestOf s = fun _ => s (ValueIdx.ix1 j) := by
  have e : bestOf s zx = (Finset.univ : Finset (Fin 20000)).fold (max : EReal → EReal → EReal) (Ideal.ofBits .f32 0xFF800000#32) (fun q => s (ValueIdx.ix1 q)) := by
    unfold bestOf
    pointwise
    rfl
  obtain ⟨h1, h2, h3⟩ := fold_choice (max : EReal → EReal → EReal) (fun a c => a ≤ c) (fun _ => le_refl _) (fun _ _ _ => le_trans)
    (fun a c => max_choice a c) (fun a c => le_max_left a c) (fun a c => le_max_right a c) (Ideal.ofBits .f32 0xFF800000#32)
    (fun q : Fin 20000 => (s (ValueIdx.ix1 q) : EReal)) Finset.univ
  rw [← e] at h1 h2 h3
  have hb : (Ideal.ofBits .f32 0xFF800000#32 : EReal) = ⊥ := by simp [Ideal.ofBits, Ideal.ieee]
  obtain ⟨j, hj⟩ : ∃ j : Fin 20000, (bestOf s zx : EReal) = s (ValueIdx.ix1 j) := by
    rcases h1 with h1 | h1
    · refine ⟨0, le_antisymm ?_ (h3 0 (Finset.mem_univ _))⟩
      rw [h1, hb]
      exact bot_le
    · exact h1
  exact ⟨j, fun q => hj ▸ h3 q (Finset.mem_univ _), funext fun i => by rw [zx_all i]; exact hj⟩

theorem small_toInt (k : ℕ) (h : k ≤ 20000) : (BitVec.ofNat 32 k).toInt = k := by
  have e : (BitVec.ofNat 32 k).toNat = k := by rw [BitVec.toNat_ofNat, Nat.mod_eq_of_lt (by omega)]
  rw [BitVec.toInt_eq_toNat_of_lt (by omega), e]

theorem firstOf_spec (j : Fin 20000) (hM : M = fun _ => s (ValueIdx.ix1 j)) :
    ∃ j' : Fin 20000, (s (ValueIdx.ix1 j') : EReal) = s (ValueIdx.ix1 j) ∧ firstOf s M = fun _ => BitVec.ofNat 32 j'.val := by
  subst hM
  have e : firstOf s (fun _ => s (ValueIdx.ix1 j)) zx = (Finset.univ : Finset (Fin 20000)).fold (IntOp.minsi (w := 32)) 2147483647#32
      (fun q => if BitVec.ofBool (decide ((s (ValueIdx.ix1 q) : EReal) = s (ValueIdx.ix1 j))) = 1#1 then BitVec.ofNat 32 q.val else 20000#32) := by
    unfold firstOf
    pointwise
    rfl
  simp only [ite_ofBool] at e
  obtain ⟨h1, h2, h3⟩ := fold_choice (IntOp.minsi (w := 32)) (fun a c => c.toInt ≤ a.toInt) (fun _ => le_refl _) (fun _ _ _ h h' => le_trans h' h)
    (fun a c => by unfold IntOp.minsi; split <;> simp) (fun a c => by rw [minsi_toInt]; exact min_le_left _ _)
    (fun a c => by rw [minsi_toInt]; exact min_le_right _ _) 2147483647#32
    (fun q : Fin 20000 => if (s (ValueIdx.ix1 q) : EReal) = s (ValueIdx.ix1 j) then BitVec.ofNat 32 q.val else 20000#32) Finset.univ
  rw [← e] at h1 h2 h3
  have hj := h3 j (Finset.mem_univ _)
  rw [if_pos rfl, small_toInt _ j.isLt.le] at hj
  have hlt := j.isLt
  rcases h1 with h1 | ⟨k, h1⟩
  · rw [h1] at hj
    have : (2147483647#32).toInt = 2147483647 := by decide
    omega
  · by_cases hk : (s (ValueIdx.ix1 k) : EReal) = s (ValueIdx.ix1 j)
    · rw [if_pos hk] at h1
      exact ⟨k, hk, funext fun i => by rw [zx_all i]; exact h1⟩
    · rw [if_neg hk] at h1
      rw [h1] at hj
      have : (20000#32).toInt = 20000 := by decide
      omega

def boxOf : FVec Ideal S4 .f32 :=
  shapeCast S4 (Host.dynamicSlice S1x4 b (fun k => (((![select (cmpi .slt idx (constantI S_ 32 0#32)) (addi idx (constantI S_ 32 20000#32)) idx, select (cmpi .slt (constantI S_ 32 0#32) (constantI S_ 32 0#32)) (addi (constantI S_ 32 0#32) (constantI S_ 32 4#32)) (constantI S_ 32 0#32)] : Fin 2 → IVec S_ 32)) k (Shape.Idx.first h_S_)).toInt) sliceFits_S20000x4_S1x4) shapeCasts_S1x4_S4

theorem boxOf_spec (j : Fin 20000) (a : Fin 4) : boxOf b (fun _ => BitVec.ofNat 32 j.val) (ValueIdx.ix1 a) = b (ValueIdx.ix2 j a) := by
  unfold boxOf
  have hn : BitVec.slt (BitVec.ofNat 32 j.val) 0#32 = false := by
    rw [BitVec.slt_eq_decide, small_toInt _ j.isLt.le]
    simp
  rw [shapeCast_apply _ shapeCasts_S1x4_S4 (ValueIdx.ix1 a) (ValueIdx.ix2 (0 : Fin 1) a) (by
    rw [rowMajor_val1, rowMajor_val2 _ _ rfl]; show (0 : ℕ) * 4 + a.val = a.val; omega)]
  rw [Host.dynamicSlice_apply]
  refine congrArg b (funext fun x => Fin.ext ?_)
  match x with
  | 0 =>
    show Host.clampedStart S20000x4 S1x4 _ _ (0 : Fin 2) + 0 = j.val
    rw [Host.clampedStart_of_le _ _ _ j.val _ (by show j.val + 1 ≤ 20000; omega), Nat.add_zero]
    show (if BitVec.ofBool (BitVec.slt (BitVec.ofNat 32 j.val) 0#32) = 1#1 then BitVec.ofNat 32 j.val + 20000#32 else BitVec.ofNat 32 j.val).toInt = (j.val : ℤ)
    rw [hn, if_neg (by decide), small_toInt _ j.isLt.le]
  | 1 =>
    show Host.clampedStart S20000x4 S1x4 _ _ (1 : Fin 2) + a.val = a.val
    rw [Host.clampedStart_of_le _ _ _ 0 _ (by show 0 + 4 ≤ 4; omega), Nat.zero_add]
    rfl

/-- A coordinate of every box, and one of the best box. -/
theorem col_read (k : ℕ) (hk : k < 4) (h : S20000x4.Slices ![0, k] S20000x1) (h' : S20000x1.ShapeCasts S20000) (q : Fin 20000) :
    shapeCast S20000 (extractStridedSlice S20000x1 ![0, k] b h) h' (ValueIdx.ix1 q) = b (ValueIdx.ix2 q ⟨k, hk⟩) := by
  rw [shapeCast_apply _ h' (ValueIdx.ix1 q) (ValueIdx.ix2 q (0 : Fin 1)) (by
    rw [rowMajor_val1, rowMajor_val2 _ _ rfl]; show q.val * 1 + (0 : ℕ) = q.val; omega)]
  exact extractStridedSlice_apply _ _ h _ _ fun a => by
    match a with
    | 0 => show q.val = 0 + q.val; omega
    | 1 => show k = k + 0; omega

theorem box_read (k : ℕ) (hk : k < 4) (h : S4.Slices ![k] S1) (h' : S1.ShapeCasts S_) :
    shapeCast S_ (extractStridedSlice S1 ![k] W h) h' = fun _ => W (ValueIdx.ix1 ⟨k, hk⟩) := funext fun i => by
  rw [shapeCast_apply _ h' i (ValueIdx.ix1 (0 : Fin 1)) (by
    have := (S1.rowMajor (ValueIdx.ix1 (0 : Fin 1))).isLt
    have := (S_.rowMajor i).isLt
    have e1 : S1.numel = 1 := by decide
    have e2 : S_.numel = 1 := by decide
    omega)]
  exact extractStridedSlice_apply _ _ h _ _ fun a => by
    match a with
    | 0 => show k = k + 0; omega

def interOf : FVec Ideal S20000 .f32 :=
  mulf (maximumf (broadcastInDim S20000 ![] bcast_S_S20000 (id (constant S_ .f32 0x00000000#32))) (subf (minimumf (broadcastInDim S20000 ![] bcast_S_S20000 (shapeCast S_ (extractStridedSlice S1 ![2] W slices_S4_S1_2) shapeCasts_S1_S_)) (shapeCast S20000 (extractStridedSlice S20000x1 ![0, 2] b slices_S20000x4_S20000x1_0_2) shapeCasts_S20000x1_S20000)) (maximumf (broadcastInDim S20000 ![] bcast_S_S20000 (shapeCast S_ (extractStridedSlice S1 ![0] W slices_S4_S1_0) shapeCasts_S1_S_)) (shapeCast S20000 (extractStridedSlice S20000x1 ![0, 0] b slices_S20000x4_S20000x1_0_0) shapeCasts_S20000x1_S20000)))) (maximumf (broadcastInDim S20000 ![] bcast_S_S20000 (id (constant S_ .f32 0x00000000#32))) (subf (minimumf (broadcastInDim S20000 ![] bcast_S_S20000 (shapeCast S_ (extractStridedSlice S1 ![3] W slices_S4_S1_3) shapeCasts_S1_S_)) (shapeCast S20000 (extractStridedSlice S20000x1 ![0, 3] b slices_S20000x4_S20000x1_0_3) shapeCasts_S20000x1_S20000)) (maximumf (broadcastInDim S20000 ![] bcast_S_S20000 (shapeCast S_ (extractStridedSlice S1 ![1] W slices_S4_S1_1) shapeCasts_S1_S_)) (shapeCast S20000 (extractStridedSlice S20000x1 ![0, 1] b slices_S20000x4_S20000x1_0_1) shapeCasts_S20000x1_S20000))))

def iouOf : FVec Ideal S20000 .f32 :=
  Host.divf (interOf b W) (addf (subf (addf (broadcastInDim S20000 ![] bcast_S_S20000 (mulf (subf (shapeCast S_ (extractStridedSlice S1 ![2] W slices_S4_S1_2) shapeCasts_S1_S_) (shapeCast S_ (extractStridedSlice S1 ![0] W slices_S4_S1_0) shapeCasts_S1_S_)) (subf (shapeCast S_ (extractStridedSlice S1 ![3] W slices_S4_S1_3) shapeCasts_S1_S_) (shapeCast S_ (extractStridedSlice S1 ![1] W slices_S4_S1_1) shapeCasts_S1_S_)))) (mulf (subf (shapeCast S20000 (extractStridedSlice S20000x1 ![0, 2] b slices_S20000x4_S20000x1_0_2) shapeCasts_S20000x1_S20000) (shapeCast S20000 (extractStridedSlice S20000x1 ![0, 0] b slices_S20000x4_S20000x1_0_0) shapeCasts_S20000x1_S20000)) (subf (shapeCast S20000 (extractStridedSlice S20000x1 ![0, 3] b slices_S20000x4_S20000x1_0_3) shapeCasts_S20000x1_S20000) (shapeCast S20000 (extractStridedSlice S20000x1 ![0, 1] b slices_S20000x4_S20000x1_0_1) shapeCasts_S20000x1_S20000)))) (interOf b W)) (broadcastInDim S20000 ![] bcast_S_S20000 (constant S_ .f32 0x3089705F#32)))

abbrev co (k : Fin 4) (q : Fin 20000) : EReal := b (ValueIdx.ix2 q k)
abbrev cw (k : Fin 4) : EReal := W (ValueIdx.ix1 k)

theorem interOf_apply (q : Fin 20000) : (interOf b W (ValueIdx.ix1 q) : EReal)
    = max (min (cw W 2) (co b 2 q) - max (cw W 0) (co b 0 q)) 0 * max (min (cw W 3) (co b 3 q) - max (cw W 1) (co b 1 q)) 0 := by
  unfold interOf
  rw [box_read W 0 (by omega), box_read W 1 (by omega), box_read W 2 (by omega), box_read W 3 (by omega)]
  have e0 := col_read b 0 (by omega) slices_S20000x4_S20000x1_0_0 shapeCasts_S20000x1_S20000 q
  have e1 := col_read b 1 (by omega) slices_S20000x4_S20000x1_0_1 shapeCasts_S20000x1_S20000 q
  have e2 := col_read b 2 (by omega) slices_S20000x4_S20000x1_0_2 shapeCasts_S20000x1_S20000 q
  have e3 := col_read b 3 (by omega) slices_S20000x4_S20000x1_0_3 shapeCasts_S20000x1_S20000 q
  show max (Ideal.ofBits .f32 0x00000000#32) (min (cw W 2) (shapeCast S20000 _ _ (ValueIdx.ix1 q)) - max (cw W 0) (shapeCast S20000 _ _ (ValueIdx.ix1 q)))
    * max (Ideal.ofBits .f32 0x00000000#32) (min (cw W 3) (shapeCast S20000 _ _ (ValueIdx.ix1 q)) - max (cw W 1) (shapeCast S20000 _ _ (ValueIdx.ix1 q))) = _
  rw [e0, e1, e2, e3, Ideal.ofBits_zero_f32, max_comm (0 : EReal), max_comm (0 : EReal)]
  rfl

theorem iouOf_apply (q : Fin 20000) : (iouOf b W (ValueIdx.ix1 q) : EReal)
    = iou2 (cw W 0) (cw W 1) (cw W 2) (cw W 3) (co b 0 q) (co b 1 q) (co b 2 q) (co b 3 q) := by
  unfold iouOf iou2
  rw [box_read W 0 (by omega), box_read W 1 (by omega), box_read W 2 (by omega), box_read W 3 (by omega)]
  have e0 := col_read b 0 (by omega) slices_S20000x4_S20000x1_0_0 shapeCasts_S20000x1_S20000 q
  have e1 := col_read b 1 (by omega) slices_S20000x4_S20000x1_0_1 shapeCasts_S20000x1_S20000 q
  have e2 := col_read b 2 (by omega) slices_S20000x4_S20000x1_0_2 shapeCasts_S20000x1_S20000 q
  have e3 := col_read b 3 (by omega) slices_S20000x4_S20000x1_0_3 shapeCasts_S20000x1_S20000 q
  rw [← interOf_apply]
  show Ideal.div (interOf b W (ValueIdx.ix1 q)) ((cw W 2 - cw W 0) * (cw W 3 - cw W 1)
    + (shapeCast S20000 _ _ (ValueIdx.ix1 q) - shapeCast S20000 _ _ (ValueIdx.ix1 q)) * (shapeCast S20000 _ _ (ValueIdx.ix1 q) - shapeCast S20000 _ _ (ValueIdx.ix1 q))
    - interOf b W (ValueIdx.ix1 q) + Ideal.ofBits .f32 0x3089705F#32) = _
  rw [e0, e1, e2, e3]
  rfl

def nextOf : FVec Ideal S20000 .f32 :=
  select (cmpi .eq (iotaInDim S20000 32 0) (broadcastInDim S20000 ![] bcast_S_S20000 idx)) (broadcastInDim S20000 ![] bcast_S_S20000 (id (constant S_ .f32 0x00000000#32))) (select (cmpf .ogt (iouOf b W) (broadcastInDim S20000 ![] bcast_S_S20000 (constant S_ .f32 0x3EE66666#32))) (broadcastInDim S20000 ![] bcast_S_S20000 (id (constant S_ .f32 0x00000000#32))) s)

theorem nextOf_apply (j q : Fin 20000) : (nextOf b s W (fun _ => BitVec.ofNat 32 j.val) (ValueIdx.ix1 q) : EReal)
    = if q = j then 0 else if thr < iouOf b W (ValueIdx.ix1 q) then 0 else s (ValueIdx.ix1 q) := by
  have e : (nextOf b s W (fun _ => BitVec.ofNat 32 j.val) (ValueIdx.ix1 q) : EReal)
      = if BitVec.ofBool (decide (BitVec.ofNat 32 q.val = BitVec.ofNat 32 j.val)) = 1#1 then Ideal.ofBits .f32 0x00000000#32
        else if BitVec.ofBool (decide (thr < iouOf b W (ValueIdx.ix1 q))) = 1#1 then Ideal.ofBits .f32 0x00000000#32 else s (ValueIdx.ix1 q) := rfl
  rw [e, ite_ofBool, ite_ofBool, Ideal.ofBits_zero_f32]
  refine if_congr ⟨fun h => Fin.ext ?_, fun h => by rw [h]⟩ rfl rfl
  have := congrArg BitVec.toInt h
  rw [small_toInt _ q.isLt.le, small_toInt _ j.isLt.le] at this
  exact_mod_cast this

def storedOf : FVec Ideal S5 .f32 :=
  select (broadcastInDim S5 ![] bcast_S_S5 (cmpf .ogt M (constant S_ .f32 0x00000000#32))) (concatenate S5 0 [⟨S4, W⟩, ⟨S1, (broadcastInDim S1 ![] bcast_S_S1 M)⟩] concatenates_S4_S1_S5_d0) (broadcastInDim S5 ![] bcast_S_S5 (constant S_ .f32 0x00000000#32))

theorem storedOf_apply (v : EReal) (hM : M = fun _ => v) (l : Fin 5) :
    (storedOf W M (ValueIdx.ix1 l) : EReal) = entry v (cw W 0) (cw W 1) (cw W 2) (cw W 3) ⟨l.val, by omega⟩ := by
  subst hM
  have e : (storedOf W (fun _ => v) (ValueIdx.ix1 l) : EReal) = if BitVec.ofBool (decide (Ideal.ofBits .f32 0x00000000#32 < v)) = 1#1
      then concatenate S5 0 [⟨S4, W⟩, ⟨S1, fun _ => v⟩] concatenates_S4_S1_S5_d0 (ValueIdx.ix1 l) else Ideal.ofBits .f32 0x00000000#32 := rfl
  rw [e, ite_ofBool, Ideal.ofBits_zero_f32]
  unfold entry
  refine if_congr Iff.rfl ?_ rfl
  by_cases h : l.val < 4
  · rw [concatenate_pair_apply_left 0 W _ concatenates_S4_S1_S5_d0 (ValueIdx.ix1 l) rfl (ValueIdx.ix1 (⟨l.val, h⟩ : Fin 4)) (fun a => by
      match a with
      | 0 => rfl)]
    fin_cases l <;> first | rfl | exact absurd h (by decide)
  · obtain rfl : l = 4 := Fin.ext (by show l.val = 4; omega)
    exact concatenate_pair_apply_right 0 W (fun _ : S1.Idx => v) concatenates_S4_S1_S5_d0 (ValueIdx.ix1 (4 : Fin 5)) rfl rfl (ValueIdx.ix1 (0 : Fin 1))
      (fun a h => absurd (Subsingleton.elim _ _) h) rfl

def outOf (row : IVec S_ 32) (out : FVec Ideal S300x5 .f32) : FVec Ideal S300x5 .f32 :=
  select (broadcastInDim S300x5 ![0, 1] bcast_S300x1_S300x5_0_1 (broadcastInDim S300x1 ![0] bcast_S300_S300x1_0 (cmpi .eq (iotaInDim S300 32 0) (broadcastInDim S300 ![] bcast_S_S300 (id row))))) (broadcastInDim S300x5 ![0, 1] bcast_S1x5_S300x5_0_1 (broadcastInDim S1x5 ![1] bcast_S5_S1x5_1 (storedOf W M))) out

theorem outOf_apply (k : ℕ) (hk : k < 300) (row : IVec S_ 32) (hr : row = fun _ => BitVec.ofNat 32 k) (out : FVec Ideal S300x5 .f32) (i : Fin 300) (l : Fin 5) :
    outOf W M row out (ValueIdx.ix2 i l) = if i.val = k then storedOf W M (ValueIdx.ix1 l) else out (ValueIdx.ix2 i l) := by
  subst hr
  have e : outOf W M (fun _ => BitVec.ofNat 32 k) out (ValueIdx.ix2 i l) = if BitVec.ofBool (decide (BitVec.ofNat 32 i.val = BitVec.ofNat 32 k)) = 1#1
      then storedOf W M (ValueIdx.ix1 l) else out (ValueIdx.ix2 i l) := by
    unfold outOf
    pointwise
    rfl
  rw [e, ite_ofBool]
  refine if_congr ⟨fun h => ?_, fun h => by rw [h]⟩ rfl rfl
  have := congrArg BitVec.toInt h
  rw [small_toInt _ (by omega), small_toInt _ (by omega)] at this
  exact_mod_cast this

end Cert.Proof

end
-- ==== Proof.Chosen.lean ====
module

public import proofs.«01_k».proof.Proof.Step

@[expose] public section

noncomputable section

namespace Cert.Proof

open Cert.ReferenceIdeal Cert.ReferenceIdeal.Gen Cert.ReferenceIdeal.Value

open Idealize.ShloMosaic Idealize.ShloMosaic.TcCoe Idealize.ShloMosaic.Tactic Idealize.ShloMosaic.StableHlo

/-! The reference's 300 steps as the selection one box a step. -/

variable (V0 : Valuation τ sig (Elt Ideal))

abbrev bx : FVec Ideal S20000x4 .f32 := V0 (Proc.devRef .tc main_v4_0)
abbrev rw0 : IVec S_ 32 := V0 (Proc.devRef .tc main_v4_2)
abbrev sc : FVec Ideal S20000 .f32 := V0 (Proc.devRef .tc main_v4_3)
abbrev ot : FVec Ideal S300x5 .f32 := V0 (Proc.devRef .tc main_v4_4)

theorem step_bx : bx (STEP V0) = bx V0 := STEP_main_v4_0 V0
theorem step_rw : rw0 (STEP V0) = addi (rw0 V0) (constantI S_ 32 1#32) := STEP_main_v4_2 V0
theorem v6_eq : res_main_while0b_v6 V0 = bestOf (sc V0) := rfl
theorem v11_eq : res_main_while0b_v11 V0 = firstOf (sc V0) (bestOf (sc V0)) := rfl
theorem v19_eq : res_main_while0b_v19 V0 = boxOf (bx V0) (firstOf (sc V0) (bestOf (sc V0))) := rfl
theorem v48_eq : res_main_while0b_v48 V0 = interOf (bx V0) (res_main_while0b_v19 V0) := rfl
set_option maxRecDepth 8192 in
theorem step_sc : sc (STEP V0) = nextOf (bx V0) (sc V0) (boxOf (bx V0) (firstOf (sc V0) (bestOf (sc V0)))) (firstOf (sc V0) (bestOf (sc V0))) := by
  refine (STEP_main_v4_3 V0).trans ?_
  rw [← v19_eq, ← v11_eq]
  unfold step_main_v4_3 nextOf iouOf
  rw [← v48_eq]
  generalize res_main_while0b_v48 V0 = X
  generalize res_main_while0b_v19 V0 = Y
  generalize res_main_while0b_v11 V0 = Z
  rfl
theorem step_ot : ot (STEP V0) = outOf (boxOf (bx V0) (firstOf (sc V0) (bestOf (sc V0)))) (bestOf (sc V0)) (rw0 V0) (ot V0) :=
  STEP_main_v4_4 V0

/-- One step: a best box, the scores it leaves, and the row stored. -/
theorem step_spec : ∃ j : Fin 20000, (∀ q : Fin 20000, (sc V0 (ValueIdx.ix1 q) : EReal) ≤ sc V0 (ValueIdx.ix1 j))
    ∧ (∀ q : Fin 20000, (sc (STEP V0) (ValueIdx.ix1 q) : EReal) = if q = j then 0 else if thr < iou (co (bx V0) 0) (co (bx V0) 1) (co (bx V0) 2) (co (bx V0) 3) j q then 0 else sc V0 (ValueIdx.ix1 q))
    ∧ ∀ k < 300, rw0 V0 = (fun _ => BitVec.ofNat 32 k) → ∀ (i : Fin 300) (l : Fin 5),
      (ot (STEP V0) (ValueIdx.ix2 i l) : EReal) = if i.val = k then entry (sc V0 (ValueIdx.ix1 j)) (co (bx V0) 0 j) (co (bx V0) 1 j) (co (bx V0) 2 j) (co (bx V0) 3 j) ⟨l.val, by omega⟩
        else ot V0 (ValueIdx.ix2 i l) := by
  obtain ⟨j0, h0, hM⟩ := bestOf_spec (sc V0)
  obtain ⟨j, hj, hI⟩ := firstOf_spec (sc V0) (bestOf (sc V0)) j0 hM
  have hw : ∀ k : Fin 4, cw (boxOf (bx V0) (fun _ => BitVec.ofNat 32 j.val)) k = co (bx V0) k j := fun k => boxOf_spec (bx V0) j k
  refine ⟨j, fun q => (h0 q).trans_eq hj.symm, fun q => ?_, fun k hk hr i l => ?_⟩
  · rw [step_sc, hI, nextOf_apply, iouOf_apply, hw, hw, hw, hw]
    rfl
  · rw [step_ot, hI, outOf_apply _ _ k hk _ hr, storedOf_apply _ _ (sc V0 (ValueIdx.ix1 j0)) hM, hw, hw, hw, hw, hj]

section
variable (b : FVec Ideal S20000x4 .f32) (hb : bx V0 = b)

/-- The scores before step `k`, its best box, and the row of it. -/
def chS (k : ℕ) (q : Fin 20000) : EReal := sc (STEP^[k] V0) (ValueIdx.ix1 q)
def chJ (k : ℕ) : Fin 20000 := (step_spec (STEP^[k] V0)).choose
def chR (k : ℕ) (l : Fin 128) : EReal := entry (chS V0 k (chJ V0 k)) (co b 0 (chJ V0 k)) (co b 1 (chJ V0 k)) (co b 2 (chJ V0 k)) (co b 3 (chJ V0 k)) l

include hb

theorem bx_const (k : ℕ) : bx (STEP^[k] V0) = b := by
  induction k with
  | zero => exact hb
  | succ k ih => rw [Function.iterate_succ_apply', step_bx, ih]

omit hb in
theorem rw_count (h0 : rw0 V0 = fun _ => 0#32) (k : ℕ) : rw0 (STEP^[k] V0) = fun _ => BitVec.ofNat 32 k := by
  induction k with
  | zero => exact h0
  | succ k ih =>
    rw [Function.iterate_succ_apply', step_rw, ih]
    exact funext fun _ => (BitVec.ofNat_add k 1).symm

theorem ch_step (k : ℕ) : ∃ j, (∀ q, chS V0 k q ≤ chS V0 k j)
    ∧ (∀ q, chS V0 (k + 1) q = if q = j then 0 else if thr < iou (co b 0) (co b 1) (co b 2) (co b 3) j q then 0 else chS V0 k q)
    ∧ ∀ l, chR V0 b k l = entry (chS V0 k j) (co b 0 j) (co b 1 j) (co b 2 j) (co b 3 j) l := by
  obtain ⟨h1, h2, -⟩ := (step_spec (STEP^[k] V0)).choose_spec
  refine ⟨chJ V0 k, h1, fun q => ?_, fun l => rfl⟩
  have h2 : ∀ b', bx (STEP^[k] V0) = b' → ∀ q : Fin 20000, (sc (STEP (STEP^[k] V0)) (ValueIdx.ix1 q) : EReal)
      = if q = chJ V0 k then 0 else if thr < iou (co b' 0) (co b' 1) (co b' 2) (co b' 3) (chJ V0 k) q then 0 else chS V0 k q := by
    rintro _ rfl
    exact h2
  have h2 := h2 b (bx_const V0 b hb k)
  unfold chS
  rw [Function.iterate_succ_apply']
  exact h2 q

/-- After `n` steps the first `n` rows are stored. -/
theorem ch_rows (h0 : rw0 V0 = fun _ => 0#32) (n : ℕ) (hn : n ≤ 300) (i : Fin 300) (hi : i.val < n) (l : Fin 5) :
    ot (STEP^[n] V0) (ValueIdx.ix2 i l) = chR V0 b i.val ⟨l.val, by omega⟩ := by
  induction n with
  | zero => exact absurd hi (Nat.not_lt_zero _)
  | succ n ih =>
    obtain ⟨-, -, h3⟩ := (step_spec (STEP^[n] V0)).choose_spec
    have h : ∀ b', bx (STEP^[n] V0) = b' → (ot (STEP (STEP^[n] V0)) (ValueIdx.ix2 i l) : EReal)
        = if i.val = n then chR V0 b' n ⟨l.val, by omega⟩ else ot (STEP^[n] V0) (ValueIdx.ix2 i l) := by
      rintro _ rfl
      exact h3 n (by omega) (rw_count V0 h0 n) i l
    have h := h b (bx_const V0 b hb n)
    rw [Function.iterate_succ_apply']
    refine h.trans ?_
    by_cases e : i.val = n
    · rw [if_pos e, e]
    · rw [if_neg e]
      exact ih (by omega) (by omega)

end

section
/-! What the steps start from. -/

variable (m : (b : Loc nD τ sig) → Buf (Elt Ideal) b) (c : Dev nD)

abbrev start : Valuation τ sig (Elt Ideal) := entryContents preI m c

theorem start_bx : bx (start m c) = m ((c.tc : Thread nD τ).loc main_arg0) := by
  unfold bx start
  simp only [entryContents, afterL_cons, afterL_nil]
  after_reads_simp
  rfl

theorem start_rw : rw0 (start m c) = fun _ => 0#32 := by
  unfold rw0 start
  simp only [entryContents, afterL_cons, afterL_nil]
  after_reads_simp
  rfl

theorem start_sc (s : FVec Ideal S20000 .f32) (hs : m ((c.tc : Thread nD τ).loc main_arg1) = s) (q : Fin 20000) :
    (sc (start m c) (ValueIdx.ix1 q) : EReal) = if Ideal.ofBits .f32 0x3E800000#32 ≤ s (ValueIdx.ix1 q) then s (ValueIdx.ix1 q) else (0 : EReal) := by
  have e : sc (start m c) = select (cmpf .oge s (broadcastInDim S20000 ![] bcast_S_S20000 (constant S_ .f32 0x3E800000#32)))
      s (broadcastInDim S20000 ![] bcast_S_S20000 (constant S_ .f32 0x00000000#32) : FVec Ideal S20000 .f32) := by
    subst hs
    unfold sc start
    simp only [entryContents, afterL_cons, afterL_nil]
    after_reads_simp
    rfl
  rw [e, ← Ideal.ofBits_zero_f32, ← ite_ofBool]
  rfl

end

end Cert.Proof

end
-- ==== Proof.PreRead.lean ====
module

public import proofs.«01_k».proof.Proof.Step
public import proofs.«01_k».proof.Pre_no_tie
public import proofs.«01_k».proof.Proof.Gen.Pre_no_tie
public import Idealize.ShloMosaic.Lib.ReduceAll

@[expose] public section

noncomputable section

namespace Cert.Proof

open Cert.Pre_no_tie

open Idealize.ShloMosaic

/-! What the precondition says of the boxes and scores. -/

theorem ofBool_one {p : Prop} [Decidable p] : BitVec.ofBool (decide p) = 1#1 ↔ p := by by_cases h : p <;> simp [h]
theorem noti_or (a b : BitVec 1) : IntOp.ori (~~~a) b = 1#1 ↔ (a = 1#1 → b = 1#1) := by revert a b; decide

variable (b : FVec Ideal S20000x4 .f32) (s : FVec Ideal S20000 .f32)

instance : Subsingleton S_.Idx := ⟨fun a c => funext fun x => x.elim0⟩

theorem pre_split (h : fn b s = fun _ => 1#1) :
    (∀ q q' : Fin 20000, Ideal.ofBits .f32 0x3E800000#32 ≤ s (ValueIdx.ix1 q) → (s (ValueIdx.ix1 q) : EReal) = s (ValueIdx.ix1 q') → q = q')
    ∧ ∀ q : Fin 20000, Ideal.ofBits .f32 0x3E800000#32 ≤ s (ValueIdx.ix1 q) →
      (∀ k : Fin 4, max (co b k q) (-co b k q) < ⊤) ∧ 0 < co b 2 q - co b 0 q ∧ 0 < co b 3 q - co b 1 q
        ∧ Ideal.ofBits .f32 0x3089705F#32 ≤ (co b 2 q - co b 0 q) * (co b 3 q - co b 1 q) := by
  have h := congrFun h (Shape.Idx.first Gen.h_S_)
  unfold fn fn_part1 fn_part2 at h
  obtain ⟨h1, h2⟩ := IntOp.andi_eq_one.1 h
  refine ⟨fun q q' hq he => ?_, fun q hq => ?_⟩
  · have h := Host.reduce_andi_all _ _ _ _ _ h1 (ValueIdx.ix2 q q')
    have e : ∀ x, x = 1#1 → x = IntOp.ori (~~~(IntOp.andi (BitVec.ofBool (decide (Ideal.ofBits .f32 0x3E800000#32 ≤ s (ValueIdx.ix1 q))))
        (BitVec.ofBool (decide ((s (ValueIdx.ix1 q) : EReal) = s (ValueIdx.ix1 q')))))) (BitVec.ofBool (decide (BitVec.ofNat 32 q.val = BitVec.ofNat 32 q'.val)))
        → q = q' := by
      rintro _ hx rfl
      have h := ofBool_one.1 ((noti_or _ _).1 hx (IntOp.andi_eq_one.2 ⟨ofBool_one.2 hq, ofBool_one.2 he⟩))
      have := congrArg BitVec.toInt h
      rw [small_toInt _ q.isLt.le, small_toInt _ q'.isLt.le] at this
      exact Fin.ext (by exact_mod_cast this)
    refine e _ h ?_
    pointwise
    rfl
  · have h := Host.reduce_andi_all _ _ _ _ _ h2 (ValueIdx.ix1 q)
    have h := (noti_or (BitVec.ofBool (decide (Ideal.ofBits .f32 0x3E800000#32 ≤ s (ValueIdx.ix1 q)))) _).1 h (ofBool_one.2 hq)
    obtain ⟨h, h4⟩ := IntOp.andi_eq_one.1 h
    obtain ⟨h, h3⟩ := IntOp.andi_eq_one.1 h
    obtain ⟨h1, h2⟩ := IntOp.andi_eq_one.1 h
    have e0 := col_read b 0 (by omega) Gen.slices_S20000x4_S20000x1_0_0 Gen.shapeCasts_S20000x1_S20000 q
    have e1 := col_read b 1 (by omega) Gen.slices_S20000x4_S20000x1_0_1 Gen.shapeCasts_S20000x1_S20000 q
    have e2 := col_read b 2 (by omega) Gen.slices_S20000x4_S20000x1_0_2 Gen.shapeCasts_S20000x1_S20000 q
    have e3 := col_read b 3 (by omega) Gen.slices_S20000x4_S20000x1_0_3 Gen.shapeCasts_S20000x1_S20000 q
    have hw : (subf (shapeCast S20000 (extractStridedSlice S20000x1 ![0, 2] b Gen.slices_S20000x4_S20000x1_0_2) Gen.shapeCasts_S20000x1_S20000)
        (shapeCast S20000 (extractStridedSlice S20000x1 ![0, 0] b Gen.slices_S20000x4_S20000x1_0_0) Gen.shapeCasts_S20000x1_S20000) (ValueIdx.ix1 q) : EReal)
        = co b 2 q - co b 0 q := congrArg₂ (fun x y : EReal => x - y) e2 e0
    have hh : (subf (shapeCast S20000 (extractStridedSlice S20000x1 ![0, 3] b Gen.slices_S20000x4_S20000x1_0_3) Gen.shapeCasts_S20000x1_S20000)
        (shapeCast S20000 (extractStridedSlice S20000x1 ![0, 1] b Gen.slices_S20000x4_S20000x1_0_1) Gen.shapeCasts_S20000x1_S20000) (ValueIdx.ix1 q) : EReal)
        = co b 3 q - co b 1 q := congrArg₂ (fun x y : EReal => x - y) e3 e1
    refine ⟨fun k => ?_, ?_, ?_, ?_⟩
    · have h := Host.reduce_andi_eq_one _ _ _ _ _ h1 (ValueIdx.ix2 q k) (funext fun a => by
        match a with
        | 0 => rfl)
      have h : max (co b k q) (-co b k q) < Ideal.ofBits .f32 0x7F800000#32 := ofBool_one.1 h
      rwa [show Ideal.ofBits .f32 0x7F800000#32 = ⊤ by simp [Ideal.ofBits, Ideal.ieee]] at h
    · rw [← hw, ← Ideal.ofBits_zero_f32]
      exact ofBool_one.1 h2
    · rw [← hh, ← Ideal.ofBits_zero_f32]
      exact ofBool_one.1 h3
    · rw [← hw, ← hh]
      exact ofBool_one.1 h4

end Cert.Proof

end
-- ==== Proof.Algebra.lean ====
module

public import proofs.«01_k».proof.Proof.Planes
public import proofs.«01_k».proof.Proof.Chosen
public import proofs.«01_k».proof.Proof.PreRead

@[expose] public section

noncomputable section

namespace Cert.Proof

open Idealize.ShloMosaic Idealize.ShloMosaic.TcCoe

/-! The kernel's result is the reference's, under the precondition. -/

theorem eps_pos : (0 : EReal) < Ideal.ofBits .f32 0x3089705F#32 := by
  simp [Ideal.ofBits, Ideal.ieee]
  rw [← EReal.coe_mul]
  exact EReal.coe_pos.mpr (by norm_num)

theorem eps_lt : Ideal.ofBits .f32 0x3089705F#32 < 1 := by
  simp [Ideal.ofBits, Ideal.ieee]
  norm_cast
  norm_num

theorem thr_lt : thr < ((1 / 2 : ℝ) : EReal) := by
  unfold thr
  simp only [Ideal.ofBits, Ideal.ieee]
  simp
  rw [← EReal.coe_mul]
  exact EReal.coe_lt_coe_iff.2 (by norm_num)

theorem conf_pos : (0 : EReal) < conf := by
  unfold conf
  simp [Ideal.ofBits, Ideal.ieee]
  rw [← EReal.coe_mul]
  exact EReal.coe_pos.mpr (by norm_num)

theorem finite_of {x : EReal} (h : max x (-x) < ⊤) : ∃ r : ℝ, x = r := by
  refine ⟨x.toReal, (EReal.coe_toReal ?_ ?_).symm⟩
  · rintro rfl
    simp at h
  · rintro rfl
    simp at h

/-- A box with finite coordinates, positive sides and no tiny area overlaps itself above the threshold. -/
theorem self_iou (x1 y1 x2 y2 : EReal) (h1 : max x1 (-x1) < ⊤) (h2 : max y1 (-y1) < ⊤) (h3 : max x2 (-x2) < ⊤) (h4 : max y2 (-y2) < ⊤)
    (hw : 0 < x2 - x1) (hh : 0 < y2 - y1) (ha : Ideal.ofBits .f32 0x3089705F#32 ≤ (x2 - x1) * (y2 - y1)) :
    thr < iou2 x1 y1 x2 y2 x1 y1 x2 y2 := by
  obtain ⟨x1, rfl⟩ := finite_of h1
  obtain ⟨y1, rfl⟩ := finite_of h2
  obtain ⟨x2, rfl⟩ := finite_of h3
  obtain ⟨y2, rfl⟩ := finite_of h4
  obtain ⟨e, he⟩ : ∃ e : ℝ, Ideal.ofBits .f32 0x3089705F#32 = e :=
    ⟨_, (EReal.coe_toReal (ne_top_of_lt eps_lt) (ne_bot_of_gt eps_pos)).symm⟩
  have hp := eps_pos
  unfold iou2
  rw [min_self, max_self, min_self, max_self, max_eq_left hw.le, max_eq_left hh.le]
  rw [he] at ha hp ⊢
  rw [← EReal.coe_sub, ← EReal.coe_sub, ← EReal.coe_mul] at ha ⊢
  set A := (x2 - x1) * (y2 - y1) with hA
  rw [← EReal.coe_add, ← EReal.coe_sub, ← EReal.coe_add]
  have ha : e ≤ A := EReal.coe_le_coe_iff.1 ha
  have hp : 0 < e := EReal.coe_pos.1 hp
  have hd : 0 < A + A - A + e := by linarith
  unfold Ideal.div
  rw [if_neg (by intro h; exact hd.ne' (EReal.coe_eq_zero.1 h)), ← EReal.coe_inv, ← EReal.coe_mul]
  refine thr_lt.trans_le (EReal.coe_le_coe_iff.2 ?_)
  rw [← div_eq_mul_inv, div_le_div_iff₀ (by norm_num) hd]
  linarith

section
variable (m : (b : Loc Cert.KernelIdeal.nD Cert.KernelIdeal.τ Cert.KernelIdeal.sig) → Buf (Elt Ideal) b)
  (m' : (b : Loc Cert.ReferenceIdeal.nD Cert.ReferenceIdeal.τ Cert.ReferenceIdeal.sig) → Buf (Elt Ideal) b)

theorem selects (c : Dev Cert.ReferenceIdeal.nD) (b : FVec Ideal Cert.ReferenceIdeal.S20000x4 .f32) (s : FVec Ideal Cert.ReferenceIdeal.S20000 .f32)
    (hb : m' ((c.tc : Thread Cert.ReferenceIdeal.nD Cert.ReferenceIdeal.τ).loc Cert.ReferenceIdeal.main_arg0) = b)
    (hs : m' ((c.tc : Thread Cert.ReferenceIdeal.nD Cert.ReferenceIdeal.τ).loc Cert.ReferenceIdeal.main_arg1) = s)
    (hp : Cert.Pre_no_tie.fn b s = fun _ => 1#1) :
    Selects (co b 0) (co b 1) (co b 2) (co b 3) (chS (start m' c)) (chR (start m' c) b) := by
  obtain ⟨hd, hk⟩ := pre_split b s hp
  have h0 : ∀ q, chS (start m' c) 0 q = if conf ≤ s (ValueIdx.ix1 q) then s (ValueIdx.ix1 q) else (0 : EReal) := fun q => start_sc m' c s hs q
  have kept : ∀ q, chS (start m' c) 0 q ≠ 0 → conf ≤ s (ValueIdx.ix1 q) ∧ chS (start m' c) 0 q = s (ValueIdx.ix1 q) := fun q hq => by
    rw [h0] at hq ⊢
    by_cases h : conf ≤ s (ValueIdx.ix1 q)
    · exact ⟨h, if_pos h⟩
    · exact absurd (if_neg h) hq
  refine ⟨fun k => ch_step _ b ((start_bx m' c).trans hb) k, fun q => ?_, fun q q' hq he => ?_, fun q hq => ?_⟩
  · rw [h0]
    split
    · next h => exact conf_pos.le.trans h
    · exact le_refl _
  · obtain ⟨h1, h2⟩ := kept q hq
    obtain ⟨-, h2'⟩ := kept q' (he ▸ hq)
    exact hd q q' h1 (by rw [← h2, ← h2', he])
  · obtain ⟨h1, h2, h3, h4⟩ := hk q (kept q hq).1
    exact self_iou _ _ _ _ (h1 0) (h1 1) (h1 2) (h1 3) h2 h3 h4

/-- The two programs' results. -/
theorem results_eq (c : Dev Cert.KernelIdeal.nD)
    (b : FVec Ideal Cert.ReferenceIdeal.S20000x4 .f32) (s : FVec Ideal Cert.ReferenceIdeal.S20000 .f32)
    (hb : m ((c.tc : Thread Cert.KernelIdeal.nD Cert.KernelIdeal.τ).loc Cert.KernelIdeal.main_arg0) = b)
    (hs : m ((c.tc : Thread Cert.KernelIdeal.nD Cert.KernelIdeal.τ).loc Cert.KernelIdeal.main_arg1) = s)
    (hb' : m' ((c.tc : Thread Cert.ReferenceIdeal.nD Cert.ReferenceIdeal.τ).loc Cert.ReferenceIdeal.main_arg0) = b)
    (hs' : m' ((c.tc : Thread Cert.ReferenceIdeal.nD Cert.ReferenceIdeal.τ).loc Cert.ReferenceIdeal.main_arg1) = s)
    (hp : Cert.Pre_no_tie.fn b s = fun _ => 1#1) :
    (Cert.ReferenceIdeal.Value.STEP^[300] (start m' c)) (Proc.devRef .tc Cert.ReferenceIdeal.main_v4_4) = result m c := by
  have hS := selects m' c b s hb' hs' hp
  have hB : ∀ k, boxes m c k = co b k := fun k => by subst hb; rfl
  have hC : chS (start m' c) 0 = floored (scores m c) := funext fun q => (start_sc m' c s hs' q).trans (by subst hs; rfl)
  refine funext fun i => ?_
  rw [ValueIdx.eq_ix2 i]
  refine (ch_rows (start m' c) b ((start_bx m' c).trans hb') (start_rw m' c) 300 (le_refl _) (i 0) (i 0).isLt (i 1)).trans ?_
  rw [← hB, ← hB, ← hB, ← hB] at hS
  exact (result_eq m c _ _ hS hC (i 0) (i 1)).symm

end

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_no_tie
public import proofs.«01_k».proof.Proof.Run
public import proofs.«01_k».proof.Proof.Algebra
public import proofs.«01_k».proof.Proof.Printed.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed kernel's frame. -/
theorem frame_kernel : Cert.quiescent_Kernel (hKernel := Cert.Kernel.Gen.facts) := fun m g _ =>
  (θ_run _ _ _).mono (fun _ h => ⟨fun c => (h.1 c).2, h.2⟩) (Cert.Proof.Printed.run_main (F := Bits) m g)

/-- The idealized kernel's frame. -/
theorem frame_ideal : Cert.quiescent_KernelIdeal (hKernelIdeal := Cert.KernelIdeal.Gen.facts) (hPre_no_tie := Cert.Pre_no_tie.Gen.facts) := fun m g _ =>
  (θ_run _ _ _).mono (fun _ h => ⟨fun c => (h.1 c).2, h.2⟩) (run_main (F := Ideal) m g)

/-- The reference's frame: it declares no semaphore, so every counter is zero. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- The two programs compute the same results. -/
theorem algebra : Cert.algebraic_KernelIdeal_ReferenceIdeal (hKernelIdeal := Cert.KernelIdeal.Gen.facts)
    (hReferenceIdeal := Cert.ReferenceIdeal.Gen.facts) (hPre_no_tie := Cert.Pre_no_tie.Gen.facts) := fun m g m' g' hp ha =>
  ⟨fun c => result m c, (θ_run _ _ _).mono (fun _ h => h.1) (run_main (F := Ideal) m g),
    (θ_run _ _ _).mono (fun _ h c => ⟨(h c).1.trans (results_eq m m' c _ _ rfl rfl (ha c).1 (ha c).2 (hp c)), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_no_tie.Gen.facts,
  frame_kernel, fun m g _ => frame_kernel m g trivial, frame_ideal, frame_reference, fun m g _ => frame_reference m g trivial, trivial,
  algebra⟩

end Cert.Proof

end
